-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labelled [hPre_labelled : Cert.Pre_labelled.Facts] (m : (ℓ : Loc Cert.KernelIdeal.nD Cert.KernelIdeal.τ Cert.KernelIdeal.sig) → Buf (Elt Ideal) ℓ) : Prop :=
  ∀ c : Dev Cert.KernelIdeal.nD,
    (Cert.Pre_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labelled [hPre_labelled : Cert.Pre_labelled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_labelled [hKernelIdeal : Cert.KernelIdeal.Facts] [hPre_labelled : Cert.Pre_labelled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labelled m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_labelled [hReferenceIdeal : Cert.ReferenceIdeal.Facts] [hPre_labelled : Cert.Pre_labelled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labelled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_labelled [hKernelIdeal : Cert.KernelIdeal.Facts] [hReferenceIdeal : Cert.ReferenceIdeal.Facts] [hPre_labelled : Cert.Pre_labelled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labelled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_near_problem_pre_labelled [hKernelIdeal : Cert.KernelIdeal.Facts] [hPre_labelled : Cert.Pre_labelled.Facts] [hPost_near_problem : Cert.Post_near_problem.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labelled m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_near_problem.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v23))) = (fun _ => 1#1))

def Claim : Prop :=
  ∃ (hKernel : Cert.Kernel.Facts) (hKernelIdeal : Cert.KernelIdeal.Facts) (hReferenceIdeal : Cert.ReferenceIdeal.Facts) (hPre_labelled : Cert.Pre_labelled.Facts) (hPost_near_problem : Cert.Post_near_problem.Facts),
    quiescent_Kernel (hKernel := hKernel)
    ∧ quiescent_KernelIdeal (hKernelIdeal := hKernelIdeal)
    ∧ quiescent_KernelIdeal_pre_labelled (hKernelIdeal := hKernelIdeal) (hPre_labelled := hPre_labelled)
    ∧ quiescent_ReferenceIdeal (hReferenceIdeal := hReferenceIdeal)
    ∧ quiescent_ReferenceIdeal_pre_labelled (hReferenceIdeal := hReferenceIdeal) (hPre_labelled := hPre_labelled)
    ∧ preserves_Kernel_KernelIdeal
    ∧ algebraic_KernelIdeal_ReferenceIdeal_pre_labelled (hKernelIdeal := hKernelIdeal) (hReferenceIdeal := hReferenceIdeal) (hPre_labelled := hPre_labelled)
    ∧ holds_KernelIdeal_near_problem_pre_labelled (hKernelIdeal := hKernelIdeal) (hPre_labelled := hPre_labelled) (hPost_near_problem := hPost_near_problem)
-- ==== Post_near_problem.lean ====
abbrev S16x262144 : Shape := ⟨2, ![16, 262144]⟩
abbrev S_ : Shape := ⟨0, ![]⟩
abbrev S4194304 : Shape := ⟨1, ![4194304]⟩

class Facts : Prop where
  bcast_S_S16x262144 : S_.BroadcastsInDim S16x262144 (![] : Fin 0 → Fin S16x262144.rank)
  shapeCasts_S16x262144_S4194304 : S16x262144.ShapeCasts S4194304
  bcast_S_S4194304 : S_.BroadcastsInDim S4194304 (![] : Fin 0 → Fin S4194304.rank)
  reducesTo_S4194304_S_d0 : S4194304.ReducesTo [0] S_
  h_S_ : 0 < S_.numel

variable [Facts]

def fn_where {F : FTy → Type} [FloatOps F] (arg0 : IVec S4194304 1) (arg1 : FVec F S4194304 .f32) (arg2 : FVec F S_ .f32) : FVec F S4194304 .f32 :=
  let v0 : FVec F S_ .f32 := id arg2
  let v1 : FVec F S4194304 .f32 := broadcastInDim S4194304 ![] bcast_S_S4194304 v0
  let v2 : FVec F S4194304 .f32 := select arg0 arg1 v1
  v2

def fn_where_0 {F : FTy → Type} [FloatOps F] (arg0 : IVec S_ 1) (arg1 : FVec F S_ .f32) (arg2 : FVec F S_ .f32) : FVec F S_ .f32 :=
  let v0 : FVec F S_ .f32 := id arg2
  let v1 : FVec F S_ .f32 := select arg0 arg1 v0
  v1

def fn_part3 {F : FTy → Type} [FloatOps F] (main_arg2 : FVec F S_ .f32) (main_v43 : FVec F S_ .f32) (main_v48 : FVec F S_ .f32) : IVec S_ 1 :=
  let main_v49 : FVec F S_ .f32 := addf main_v43 main_v48
  let main_v50 : FVec F S_ .f32 := subf main_arg2 main_v49
  let main_v51 : FVec F S_ .f32 := Host.absf main_v50
  let main_cst_22 : FVec F S_ .f32 := constant S_ .f32 0x3B656042#32
  let main_v52 : IVec S_ 1 := cmpf .ole main_v51 main_cst_22
  main_v52

def fn_part2 {F : FTy → Type} [FloatOps F] (main_arg2 : FVec F S_ .f32) (main_v21 : FVec F S4194304 .f32) (main_v30 : IVec S4194304 1) (main_v32 : FVec F S_ .f32) (main_v34 : FVec F S_ .f32) (main_v35 : FVec F S4194304 .f32) : IVec S_ 1 :=
  let main_cst_11 : FVec F S_ .f32 := constant S_ .f32 0x00000000#32
  let main_v36 : FVec F S_ .f32 := (fun x v => Host.reduceAdd x v reducesTo_S4194304_S_d0 h_S_) main_v35 main_cst_11
  let main_cst_12 : FVec F S_ .f32 := constant S_ .f32 0x00000000#32
  let main_v37 : FVec F S4194304 .f32 := fn_where (F := F) main_v30 main_v21 main_cst_12
  let main_cst_13 : FVec F S_ .f32 := constant S_ .f32 0x00000000#32
  let main_v38 : FVec F S_ .f32 := (fun x v => Host.reduceAdd x v reducesTo_S4194304_S_d0 h_S_) main_v37 main_cst_13
  let main_cst_14 : FVec F S_ .f32 := constant S_ .f32 0x00000000#32
  let main_v39 : IVec S_ 1 := cmpf .ogt main_v32 main_cst_14
  let main_cst_15 : FVec F S_ .f32 := constant S_ .f32 0x3F800000#32
  let main_v40 : FVec F S_ .f32 := maximumf main_v32 main_cst_15
  let main_v41 : FVec F S_ .f32 := Host.divf main_v36 main_v40
  let main_cst_16 : FVec F S_ .f32 := constant S_ .f32 0x00000000#32
  let main_v42 : FVec F S_ .f32 := fn_where_0 (F := F) main_v39 main_v41 main_cst_16
  let main_cst_17 : FVec F S_ .f32 := constant S_ .f32 0x3F000000#32
  let main_v43 : FVec F S_ .f32 := mulf main_v42 main_cst_17
  let main_cst_18 : FVec F S_ .f32 := constant S_ .f32 0x00000000#32
  let main_v44 : IVec S_ 1 := cmpf .ogt main_v34 main_cst_18
  let main_cst_19 : FVec F S_ .f32 := constant S_ .f32 0x3F800000#32
  let main_v45 : FVec F S_ .f32 := maximumf main_v34 main_cst_19
  let main_v46 : FVec F S_ .f32 := Host.divf main_v38 main_v45
  let main_cst_20 : FVec F S_ .f32 := constant S_ .f32 0x00000000#32
  let main_v47 : FVec F S_ .f32 := fn_where_0 (F := F) main_v44 main_v46 main_cst_20
  let main_cst_21 : FVec F S_ .f32 := constant S_ .f32 0x3F000000#32
  let main_v48 : FVec F S_ .f32 := mulf main_v47 main_cst_21
  fn_part3 (F := F) main_arg2 main_v43 main_v48

def fn_part1 {F : FTy → Type} [FloatOps F] (main_arg1 : FVec F S16x262144 .f32) (main_arg2 : FVec F S_ .f32) (main_v7 : FVec F S4194304 .f32) (main_v15 : FVec F S4194304 .f32) (main_v16 : FVec F S4194304 .f32) (main_v17 : FVec F S4194304 .f32) : IVec S_ 1 :=
  let main_v18 : FVec F S4194304 .f32 := subf main_v17 main_v7
  let main_v19 : FVec F S4194304 .f32 := mulf main_v18 main_v15
  let main_v20 : FVec F S4194304 .f32 := addf main_v16 main_v19
  let main_v21 : FVec F S4194304 .f32 := Host.negf main_v20
  let main_v22 : FVec F S4194304 .f32 := shapeCast S4194304 main_arg1 shapeCasts_S16x262144_S4194304
  let main_cst_5 : FVec F S_ .f32 := constant S_ .f32 0xBF000000#32
  let main_v23 : FVec F S4194304 .f32 := broadcastInDim S4194304 ![] bcast_S_S4194304 main_cst_5
  let main_v24 : IVec S4194304 1 := cmpf .ogt main_v22 main_v23
  let main_cst_6 : FVec F S_ .f32 := constant S_ .f32 0x3F000000#32
  let main_v25 : FVec F S4194304 .f32 := broadcastInDim S4194304 ![] bcast_S_S4194304 main_cst_6
  let main_v26 : IVec S4194304 1 := cmpf .ogt main_v22 main_v25
  let main_v27 : IVec S4194304 1 := andi main_v24 main_v26
  let main_cst_7 : FVec F S_ .f32 := constant S_ .f32 0x3F000000#32
  let main_v28 : FVec F S4194304 .f32 := broadcastInDim S4194304 ![] bcast_S_S4194304 main_cst_7
  let main_v29 : IVec S4194304 1 := cmpf .olt main_v22 main_v28
  let main_v30 : IVec S4194304 1 := andi main_v24 main_v29
  let main_v31 : FVec F S4194304 .f32 := uitofp .f32 main_v27
  let main_cst_8 : FVec F S_ .f32 := constant S_ .f32 0x00000000#32
  let main_v32 : FVec F S_ .f32 := (fun x v => Host.reduceAdd x v reducesTo_S4194304_S_d0 h_S_) main_v31 main_cst_8
  let main_v33 : FVec F S4194304 .f32 := uitofp .f32 main_v30
  let main_cst_9 : FVec F S_ .f32 := constant S_ .f32 0x00000000#32
  let main_v34 : FVec F S_ .f32 := (fun x v => Host.reduceAdd x v reducesTo_S4194304_S_d0 h_S_) main_v33 main_cst_9
  let main_cst_10 : FVec F S_ .f32 := constant S_ .f32 0x00000000#32
  let main_v35 : FVec F S4194304 .f32 := fn_where (F := F) main_v27 main_v21 main_cst_10
  fn_part2 (F := F) main_arg2 main_v21 main_v30 main_v32 main_v34 main_v35

def fn {F : FTy → Type} [FloatOps F] (main_arg0 : FVec F S16x262144 .f32) (main_arg1 : FVec F S16x262144 .f32) (main_arg2 : FVec F S_ .f32) : IVec S_ 1 :=
  let main_v0 : FVec F S16x262144 .f32 := Host.negf main_arg0
  let main_v1 : FVec F S16x262144 .f32 := Host.exp main_v0
  let main_cst : FVec F S_ .f32 := constant S_ .f32 0x3F800000#32
  let main_v2 : FVec F S16x262144 .f32 := broadcastInDim S16x262144 ![] bcast_S_S16x262144 main_cst
  let main_v3 : FVec F S16x262144 .f32 := addf main_v2 main_v1
  let main_cst_0 : FVec F S_ .f32 := constant S_ .f32 0x3F800000#32
  let main_v4 : FVec F S16x262144 .f32 := broadcastInDim S16x262144 ![] bcast_S_S16x262144 main_cst_0
  let main_v5 : FVec F S16x262144 .f32 := Host.divf main_v4 main_v3
  let main_v6 : FVec F S4194304 .f32 := shapeCast S4194304 main_v5 shapeCasts_S16x262144_S4194304
  let main_v7 : FVec F S4194304 .f32 := shapeCast S4194304 main_arg1 shapeCasts_S16x262144_S4194304
  let main_v8 : FVec F S4194304 .f32 := Host.log main_v6
  let main_cst_1 : FVec F S_ .f32 := constant S_ .f32 0xC2C80000#32
  let main_v9 : FVec F S4194304 .f32 := broadcastInDim S4194304 ![] bcast_S_S4194304 main_cst_1
  let main_v10 : FVec F S4194304 .f32 := maximumf main_v8 main_v9
  let main_cst_2 : FVec F S_ .f32 := constant S_ .f32 0x3F800000#32
  let main_v11 : FVec F S4194304 .f32 := broadcastInDim S4194304 ![] bcast_S_S4194304 main_cst_2
  let main_v12 : FVec F S4194304 .f32 := subf main_v11 main_v6
  let main_v13 : FVec F S4194304 .f32 := Host.log main_v12
  let main_cst_3 : FVec F S_ .f32 := constant S_ .f32 0xC2C80000#32
  let main_v14 : FVec F S4194304 .f32 := broadcastInDim S4194304 ![] bcast_S_S4194304 main_cst_3
  let main_v15 : FVec F S4194304 .f32 := maximumf main_v13 main_v14
  let main_v16 : FVec F S4194304 .f32 := mulf main_v7 main_v10
  let main_cst_4 : FVec F S_ .f32 := constant S_ .f32 0x3F800000#32
  let main_v17 : FVec F S4194304 .f32 := broadcastInDim S4194304 ![] bcast_S_S4194304 main_cst_4
  fn_part1 (F := F) main_arg1 main_arg2 main_v7 main_v15 main_v16 main_v17
-- ==== Pre_labelled.lean ====
abbrev S16x262144 : Shape := ⟨2, ![16, 262144]⟩
abbrev S_ : Shape := ⟨0, ![]⟩

class Facts : Prop where
  bcast_S_S16x262144 : S_.BroadcastsInDim S16x262144 (![] : Fin 0 → Fin S16x262144.rank)
  reducesTo_S16x262144_S_d0_1 : S16x262144.ReducesTo [0, 1] S_
  h_S_ : 0 < S_.numel

variable [Facts]

def fn {F : FTy → Type} [FloatOps F] (main_arg0 : FVec F S16x262144 .f32) (main_arg1 : FVec F S16x262144 .f32) : IVec S_ 1 :=
  let main_cst : FVec F S_ .f32 := constant S_ .f32 0x00000000#32
  let main_v0 : FVec F S16x262144 .f32 := broadcastInDim S16x262144 ![] bcast_S_S16x262144 main_cst
  let main_v1 : IVec S16x262144 1 := cmpf .oeq main_arg1 main_v0
  let main_cst_0 : FVec F S_ .f32 := constant S_ .f32 0x3F800000#32
  let main_v2 : FVec F S16x262144 .f32 := broadcastInDim S16x262144 ![] bcast_S_S16x262144 main_cst_0
  let main_v3 : IVec S16x262144 1 := cmpf .oeq main_arg1 main_v2
  let main_v4 : IVec S16x262144 1 := ori main_v1 main_v3
  let main_c : IVec S_ 1 := constantI S_ 1 1#1
  let main_v5 : IVec S_ 1 := (fun x v => Host.reduce IntOp.andi x v reducesTo_S16x262144_S_d0_1 h_S_) main_v4 main_c
  let main_v6 : FVec F S16x262144 .f32 := Host.absf main_arg0
  let main_cst_1 : FVec F S_ .f32 := constant S_ .f32 0x42C60000#32
  let main_v7 : FVec F S16x262144 .f32 := broadcastInDim S16x262144 ![] bcast_S_S16x262144 main_cst_1
  let main_v8 : IVec S16x262144 1 := cmpf .ole main_v6 main_v7
  let main_c_2 : IVec S_ 1 := constantI S_ 1 1#1
  let main_v9 : IVec S_ 1 := (fun x v => Host.reduce IntOp.andi x v reducesTo_S16x262144_S_d0_1 h_S_) main_v8 main_c_2
  let main_v10 : IVec S_ 1 := andi main_v5 main_v9
  main_v10
-- ==== Kernel.lean ====
abbrev S16x262144 : Shape := ⟨2, ![16, 262144]⟩
abbrev S1536 : Shape := ⟨1, ![1536]⟩
abbrev S8x2048 : Shape := ⟨2, ![8, 2048]⟩
abbrev S48 : Shape := ⟨1, ![48]⟩
abbrev S_ : Shape := ⟨0, ![]⟩
abbrev S16 : Shape := ⟨1, ![16]⟩
abbrev S1x16 : Shape := ⟨2, ![1, 16]⟩
abbrev S3x512 : Shape := ⟨2, ![3, 512]⟩
abbrev S3 : Shape := ⟨1, ![3]⟩
abbrev S16x32768 : Shape := ⟨2, ![16, 32768]⟩
abbrev S1x16x32768 : Shape := ⟨3, ![1, 16, 32768]⟩
abbrev S1 : Shape := ⟨1, ![1]⟩
abbrev S1x1x1 : Shape := ⟨3, ![1, 1, 1]⟩

abbrev nBuf : Table → Nat
  | .hbm => 38
  | .local .tc .vmem => 7
  | .local .tc .smem => 1
  | .local .scVector .vmem => 5
  | _ => 0

abbrev bufTy : (tb : Table) → Fin (nBuf tb) → BufTy
  | .hbm, ⟨0, _⟩ => ⟨S16x262144, .f32⟩
  | .hbm, ⟨1, _⟩ => ⟨S16x262144, .f32⟩
  | .hbm, ⟨2, _⟩ => ⟨S1536, .f32⟩
  | .hbm, ⟨3, _⟩ => ⟨S3x512, .f32⟩
  | .hbm, ⟨4, _⟩ => ⟨S3, .f32⟩
  | .hbm, ⟨5, _⟩ => ⟨S_, .f32⟩
  | .hbm, ⟨6, _⟩ => ⟨S3, .f32⟩
  | .hbm, ⟨7, _⟩ => ⟨S3, .f32⟩
  | .hbm, ⟨8, _⟩ => ⟨S1, .f32⟩
  | .hbm, ⟨9, _⟩ => ⟨S_, .f32⟩
  | .hbm, ⟨10, _⟩ => ⟨S1, .f32⟩
  | .hbm, ⟨11, _⟩ => ⟨S_, .f32⟩
  | .hbm, ⟨12, _⟩ => ⟨S1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .i1⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local .tc .vmem, ⟨0, _⟩ => ⟨S16x32768, .f32⟩
  | .local .tc .vmem, ⟨1, _⟩ => ⟨S16x32768, .f32⟩
  | .local .tc .vmem, ⟨2, _⟩ => ⟨S16x32768, .f32⟩
  | .local .tc .vmem, ⟨3, _⟩ => ⟨S16x32768, .f32⟩
  | .local .tc .vmem, ⟨4, _⟩ => ⟨S16x32768, .f32⟩
  | .local .tc .vmem, ⟨5, _⟩ => ⟨S16x32768, .f32⟩
  | .local .tc .vmem, ⟨6, _⟩ => ⟨S16x32768, .f32⟩
  | .local .tc .smem, ⟨0, _⟩ => ⟨S3, .f32⟩
  | .local .scVector .vmem, ⟨0, _⟩ => ⟨S8x2048, .f32⟩
  | .local .scVector .vmem, ⟨1, _⟩ => ⟨S8x2048, .f32⟩
  | .local .scVector .vmem, ⟨2, _⟩ => ⟨S8x2048, .f32⟩
  | .local .scVector .vmem, ⟨3, _⟩ => ⟨S8x2048, .f32⟩
  | .local .scVector .vmem, ⟨4, _⟩ => ⟨S48, .f32⟩
  | _, _ => ⟨S16x262144, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_call0_v0 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_cst_7 : Ref sig .tc := ⟨.hbm, 32, rfl⟩
abbrev main_call1_v0 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_scratch0 : Ref sig .tc := ⟨.vmem, 4, rfl⟩
abbrev cc1_scratch1 : Ref sig .tc := ⟨.vmem, 5, rfl⟩
abbrev cc1_scratch2 : Ref sig .tc := ⟨.vmem, 6, rfl⟩
abbrev cc1_stg2_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v3 : BitVec 32 := Scalar.muli v1 c3_i32
  let v4 : BitVec 32 := Scalar.addi v3 c0_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c48_i32 : BitVec 32 := 48#32
  let c0_i32_2 : BitVec 32 := 0#32
  let v11 : BitVec 1 := Scalar.cmpi .sgt c48_i32 c0_i32_2
  let v12 : BitVec 32 := Scalar.extui v11
  let c0_i32_3 : BitVec 32 := 0#32
  let v13 : BitVec 1 := Scalar.cmpi .slt c48_i32 c0_i32_3
  let v14 : BitVec 32 := Scalar.extui v13
  let v15 : BitVec 32 := Scalar.subi v12 v14
  let v16 : BitVec 1 := Scalar.cmpi .ne v10 v15
  let v17 : BitVec 32 := Scalar.remsi v4 c48_i32
  let c0_i32_4 : BitVec 32 := 0#32
  let v18 : BitVec 1 := Scalar.cmpi .ne v17 c0_i32_4
  let v19 : BitVec 1 := Scalar.andi v16 v18
  let v5 : BitVec 32 := Scalar.divsi v4 c48_i32
  let c1_i32 : BitVec 32 := 1#32
  let v20 : BitVec 32 := Scalar.subi v5 c1_i32
  let v21 : BitVec 32 := Scalar.select v19 v20 v5
  let c8_i32 : BitVec 32 := 8#32
  let v22 : BitVec 32 := Scalar.muli v21 c8_i32
  let c48_i32_5 : BitVec 32 := 48#32
  let c0_i32_6 : BitVec 32 := 0#32
  let v23 : BitVec 1 := Scalar.cmpi .eq c48_i32_5 c0_i32_6
  let c1_i32_7 : BitVec 32 := 1#32
  let v24 : BitVec 32 := Scalar.select v23 c1_i32_7 c48_i32_5
  let v25 : BitVec 32 := Scalar.remsi v4 v24
  let c0_i32_9 : BitVec 32 := 0#32
  let v27 : BitVec 1 := Scalar.cmpi .slt v25 c0_i32_9
  let c0_i32_10 : BitVec 32 := 0#32
  let v28 : BitVec 1 := Scalar.cmpi .slt v24 c0_i32_10
  let v29 : BitVec 1 := Scalar.xori v27 v28
  let c0_i32_8 : BitVec 32 := 0#32
  let v26 : BitVec 1 := Scalar.cmpi .ne v25 c0_i32_8
  let v30 : BitVec 1 := Scalar.andi v29 v26
  let v31 : BitVec 32 := Scalar.addi v25 v24
  let v32 : BitVec 32 := Scalar.select v30 v31 v25
  let c2048_i32 : BitVec 32 := 2048#32
  let v33 : BitVec 32 := Scalar.muli v32 c2048_i32
  ![v22.toNat, v33.toNat]
@[reducible] def k0_t1_loop : Scf.Loop 32 :=
  let c0_i32_36 : BitVec 32 := 0#32
  let c128_i32 : BitVec 32 := 128#32
  let v77 : BitVec 32 := Scalar.addi c0_i32_36 c128_i32
  let c1_i32_37 : BitVec 32 := 1#32
  ⟨c0_i32_36, v77, c1_i32_37⟩
def k0_off2 (k0_t1 : Fin k0_t1_loop.trips) (c0_i32_86 : BitVec 32) : Fin 2 → Nat :=
  let c0_i32_36 : BitVec 32 := 0#32
  let c1_i32_37 : BitVec 32 := 1#32
  let arg14 : BitVec 32 := Scf.iv c0_i32_36 c1_i32_37 k0_t1
  let c8_i32_83 : BitVec 32 := 8#32
  let v162 : BitVec 32 := Scalar.muli arg14 c8_i32_83
  let c7_i32 : BitVec 32 := 7#32
  let v163 : BitVec 32 := Scalar.shrui v162 c7_i32
  let v168 : Index := Scalar.indexCast v163
  let c8_i32_84 : BitVec 32 := 8#32
  let v164 : BitVec 32 := Scalar.muli arg14 c8_i32_84
  let c127_i32 : BitVec 32 := 127#32
  let v165 : BitVec 32 := Scalar.andi v164 c127_i32
  let c16_i32_85 : BitVec 32 := 16#32
  let v166 : BitVec 32 := Scalar.muli v165 c16_i32_85
  let v167 : BitVec 32 := Scalar.addi v166 c0_i32_86
  let v169 : Index := Scalar.indexCast v167
  ![v168.toNat, v169.toNat]
@[reducible] def k0_t2_loop : Scf.Loop 32 :=
  let c0_i32_64 : BitVec 32 := 0#32
  let c128_i32_65 : BitVec 32 := 128#32
  let v118 : BitVec 32 := Scalar.addi c0_i32_64 c128_i32_65
  let c1_i32_66 : BitVec 32 := 1#32
  ⟨c0_i32_64, v118, c1_i32_66⟩
def k0_off3 (k0_t2 : Fin k0_t2_loop.trips) (c0_i32_86 : BitVec 32) : Fin 2 → Nat :=
  let c0_i32_64 : BitVec 32 := 0#32
  let c1_i32_66 : BitVec 32 := 1#32
  let arg14 : BitVec 32 := Scf.iv c0_i32_64 c1_i32_66 k0_t2
  let c8_i32_83 : BitVec 32 := 8#32
  let v162 : BitVec 32 := Scalar.muli arg14 c8_i32_83
  let c7_i32 : BitVec 32 := 7#32
  let v163 : BitVec 32 := Scalar.shrui v162 c7_i32
  let v168 : Index := Scalar.indexCast v163
  let c8_i32_84 : BitVec 32 := 8#32
  let v164 : BitVec 32 := Scalar.muli arg14 c8_i32_84
  let c127_i32 : BitVec 32 := 127#32
  let v165 : BitVec 32 := Scalar.andi v164 c127_i32
  let c16_i32_85 : BitVec 32 := 16#32
  let v166 : BitVec 32 := Scalar.muli v165 c16_i32_85
  let v167 : BitVec 32 := Scalar.addi v166 c0_i32_86
  let v169 : Index := Scalar.indexCast v167
  ![v168.toNat, v169.toNat]
@[reducible] def k0_t3_loop : Scf.Loop 32 :=
  let c0_i32_76 : BitVec 32 := 0#32
  let c128_i32_77 : BitVec 32 := 128#32
  let v124 : BitVec 32 := Scalar.addi c0_i32_76 c128_i32_77
  let c1_i32_78 : BitVec 32 := 1#32
  ⟨c0_i32_76, v124, c1_i32_78⟩
def k0_off4 (k0_t3 : Fin k0_t3_loop.trips) (c0_i32_86 : BitVec 32) : Fin 2 → Nat :=
  let c0_i32_76 : BitVec 32 := 0#32
  let c1_i32_78 : BitVec 32 := 1#32
  let arg14 : BitVec 32 := Scf.iv c0_i32_76 c1_i32_78 k0_t3
  let c8_i32_83 : BitVec 32 := 8#32
  let v162 : BitVec 32 := Scalar.muli arg14 c8_i32_83
  let c7_i32 : BitVec 32 := 7#32
  let v163 : BitVec 32 := Scalar.shrui v162 c7_i32
  let v168 : Index := Scalar.indexCast v163
  let c8_i32_84 : BitVec 32 := 8#32
  let v164 : BitVec 32 := Scalar.muli arg14 c8_i32_84
  let c127_i32 : BitVec 32 := 127#32
  let v165 : BitVec 32 := Scalar.andi v164 c127_i32
  let c16_i32_85 : BitVec 32 := 16#32
  let v166 : BitVec 32 := Scalar.muli v165 c16_i32_85
  let v167 : BitVec 32 := Scalar.addi v166 c0_i32_86
  let v169 : Index := Scalar.indexCast v167
  ![v168.toNat, v169.toNat]
def k0_off5 (i : grid0.Coords) (c0_i32_80 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v156 : BitVec 32 := Scalar.muli v1 c16_i32
  let v157 : BitVec 32 := Scalar.addi c0_i32_80 v156
  ![v157.toNat]
abbrev grid1 : Pipeline.Grid := ⟨1, ![5], ![false]⟩

def k1_cond2 (i : grid1.Coords) : BitVec 1 :=
  let arg0 : BitVec 32 := BitVec.ofNat 32 (i 0).val
  let c4_i32 : BitVec 32 := 4#32
  let v31 : BitVec 1 := Scalar.cmpi .eq arg0 c4_i32
  let v32 : BitVec 32 := Scalar.extui v31
  let c0_i32_17 : BitVec 32 := 0#32
  let v33 : BitVec 1 := Scalar.cmpi .ne v32 c0_i32_17
  v33

def cc1_transform_0 (i : grid1.Coords) : Fin 2 → Nat :=
  let arg0 : BitVec 32 := BitVec.ofNat 32 (i 0).val
  let c3_i32 : BitVec 32 := 3#32
  let v0 : BitVec 32 := Scalar.addi arg0 c3_i32
  let c0_i32 : BitVec 32 := 0#32
  let c0_i32_0 : BitVec 32 := 0#32
  ![c0_i32.toNat, v0.toNat]

def cc1_transform_1 (i : grid1.Coords) : Fin 2 → Nat :=
  let arg0 : BitVec 32 := BitVec.ofNat 32 (i 0).val
  let c3_i32 : BitVec 32 := 3#32
  let v0 : BitVec 32 := Scalar.addi arg0 c3_i32
  let c0_i32 : BitVec 32 := 0#32
  let c0_i32_0 : BitVec 32 := 0#32
  ![c0_i32.toNat, v0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S16x32768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x32768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .smem S3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x262144 : Shape := ⟨2, ![16, 262144]⟩
abbrev S_ : Shape := ⟨0, ![]⟩
abbrev S4194304 : Shape := ⟨1, ![4194304]⟩

abbrev nBuf : Space → Nat
  | .hbm => 107
  | .vmem => 0
  | .smem => 0
  | _ => 0

abbrev bufTy : (tb : Table) → Fin (tcTables nBuf tb) → BufTy
  | .hbm, ⟨0, _⟩ => ⟨S16x262144, .f32⟩
  | .hbm, ⟨1, _⟩ => ⟨S16x262144, .f32⟩
  | .hbm, ⟨2, _⟩ => ⟨S16x262144, .f32⟩
  | .hbm, ⟨3, _⟩ => ⟨S16x262144, .f32⟩
  | .hbm, ⟨4, _⟩ => ⟨S_, .f32⟩
  | .hbm, ⟨5, _⟩ => ⟨S16x262144, .f32⟩
  | .hbm, ⟨6, _⟩ => ⟨S16x262144, .f32⟩
  | .hbm, ⟨7, _⟩ => ⟨S_, .f32⟩
  | .hbm, ⟨8, _⟩ => ⟨S16x262144, .f32⟩
  | .hbm, ⟨9, _⟩ => ⟨S16x262144, .f32⟩
  | .hbm, ⟨10, _⟩ => ⟨S4194304, .f32⟩
  | .hbm, ⟨11, _⟩ => ⟨S4194304, .f32⟩
  | .hbm, ⟨12, _⟩ => ⟨S4194304, .f32⟩
  | .hbm, ⟨13, _⟩ => ⟨S_, .f32⟩
  | .hbm, ⟨14, _⟩ => ⟨S4194304, .f32⟩
  | .hbm, ⟨15, _⟩ => ⟨S4194304, .f32⟩
  | .hbm, ⟨16, _⟩ => ⟨S_, .f32⟩
  | .hbm, ⟨17, _⟩ => ⟨S4194304, .f32⟩
  | .hbm, ⟨18, _⟩ => ⟨S4194304, .f32⟩
  | .hbm, ⟨19, _⟩ => ⟨S4194304, .f32⟩
  | .hbm, ⟨20, _⟩ => ⟨S_, .f32⟩
  | .hbm, ⟨21, _⟩ => ⟨S4194304, .f32⟩
  | .hbm, ⟨22, _⟩ => ⟨S4194304, .f32⟩
  | .hbm, ⟨23, _⟩ => ⟨S4194304, .f32⟩
  | .hbm, ⟨24, _⟩ => ⟨S_, .f32⟩
  | .hbm, ⟨25, _⟩ => ⟨S4194304, .f32⟩
  | .hbm, ⟨26, _⟩ => ⟨S4194304, .f32⟩
  | .hbm, ⟨27, _⟩ => ⟨S4194304, .f32⟩
  | .hbm, ⟨28, _⟩ => ⟨S4194304, .f32⟩
  | .hbm, ⟨29, _⟩ => ⟨S4194304, .f32⟩
  | .hbm, ⟨30, _⟩ => ⟨S16x262144, .f32⟩
  | .hbm, ⟨31, _⟩ => ⟨S16x262144, .f32⟩
  | .hbm, ⟨32, _⟩ => ⟨S16x262144, .f32⟩
  | .hbm, ⟨33, _⟩ => ⟨S_, .f32⟩
  | .hbm, ⟨34, _⟩ => ⟨S16x262144, .f32⟩
  | .hbm, ⟨35, _⟩ => ⟨S16x262144, .f32⟩
  | .hbm, ⟨36, _⟩ => ⟨S_, .f32⟩
  | .hbm, ⟨37, _⟩ => ⟨S16x262144, .f32⟩
  | .hbm, ⟨38, _⟩ => ⟨S16x262144, .f32⟩
  | .hbm, ⟨39, _⟩ => ⟨S16x262144, .f32⟩
  | .hbm, ⟨40, _⟩ => ⟨S_, .f32⟩
  | .hbm, ⟨41, _⟩ => ⟨S16x262144, .f32⟩
  | .hbm, ⟨42, _⟩ => ⟨S16x262144, .f32⟩
  | .hbm, ⟨43, _⟩ => ⟨S16x262144, .f32⟩
  | .hbm, ⟨44, _⟩ => ⟨S16x262144, .i32⟩
  | .hbm, ⟨45, _⟩ => ⟨S_, .i32⟩
  | .hbm, ⟨46, _⟩ => ⟨S16x262144, .i32⟩
  | .hbm, ⟨47, _⟩ => ⟨S16x262144, .i1⟩
  | .hbm, ⟨48, _⟩ => ⟨S16x262144, .f32⟩
  | .hbm, ⟨49, _⟩ => ⟨S16x262144, .f32⟩
  | .hbm, ⟨50, _⟩ => ⟨S_, .f32⟩
  | .hbm, ⟨51, _⟩ => ⟨S_, .f32⟩
  | .hbm, ⟨52, _⟩ => ⟨S16x262144, .f32⟩
  | .hbm, ⟨53, _⟩ => ⟨S16x262144, .f32⟩
  | .hbm, ⟨54, _⟩ => ⟨S4194304, .f32⟩
  | .hbm, ⟨55, _⟩ => ⟨S4194304, .f32⟩
  | .hbm, ⟨56, _⟩ => ⟨S4194304, .f32⟩
  | .hbm, ⟨57, _⟩ => ⟨S_, .f32⟩
  | .hbm, ⟨58, _⟩ => ⟨S4194304, .f32⟩
  | .hbm, ⟨59, _⟩ => ⟨S4194304, .i1⟩
  | .hbm, ⟨60, _⟩ => ⟨S_, .f32⟩
  | .hbm, ⟨61, _⟩ => ⟨S4194304, .f32⟩
  | .hbm, ⟨62, _⟩ => ⟨S4194304, .i1⟩
  | .hbm, ⟨63, _⟩ => ⟨S4194304, .i1⟩
  | .hbm, ⟨64, _⟩ => ⟨S_, .f32⟩
  | .hbm, ⟨65, _⟩ => ⟨S4194304, .f32⟩
  | .hbm, ⟨66, _⟩ => ⟨S4194304, .i1⟩
  | .hbm, ⟨67, _⟩ => ⟨S4194304, .i1⟩
  | .hbm, ⟨68, _⟩ => ⟨S4194304, .f32⟩
  | .hbm, ⟨69, _⟩ => ⟨S_, .f32⟩
  | .hbm, ⟨70, _⟩ => ⟨S_, .f32⟩
  | .hbm, ⟨71, _⟩ => ⟨S4194304, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S4194304, .f32⟩
  | .hbm, ⟨77, _⟩ => ⟨S4194304, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S4194304, .f32⟩
  | .hbm, ⟨83, _⟩ => ⟨S4194304, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .i1⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .i1⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S16x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_8 : Ref sig .tc := ⟨.hbm, 50, rfl⟩
abbrev main_call0_v0 : Ref sig .tc := ⟨.hbm, 51, rfl⟩
abbrev main_call0_v1 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_cst_14 : Ref sig .tc := ⟨.hbm, 74, rfl⟩
abbrev main_call1_v0 : Ref sig .tc := ⟨.hbm, 75, rfl⟩
abbrev main_call1_v1 : Ref sig .tc := ⟨.hbm, 76, rfl⟩
abbrev main_v54 : Ref sig .tc := ⟨.hbm, 77, rfl⟩
abbrev main_cst_15 : Ref sig .tc := ⟨.hbm, 78, rfl⟩
abbrev main_v55 : Ref sig .tc := ⟨.hbm, 79, rfl⟩
abbrev main_cst_16 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_cst_17 : Ref sig .tc := ⟨.hbm, 84, rfl⟩
abbrev main_v57 : Ref sig .tc := ⟨.hbm, 85, rfl⟩
abbrev main_cst_18 : Ref sig .tc := ⟨.hbm, 86, rfl⟩
abbrev main_v58 : Ref sig .tc := ⟨.hbm, 87, rfl⟩
abbrev main_cst_19 : Ref sig .tc := ⟨.hbm, 88, rfl⟩
abbrev main_v59 : Ref sig .tc := ⟨.hbm, 89, rfl⟩
abbrev main_v60 : Ref sig .tc := ⟨.hbm, 90, rfl⟩
abbrev main_cst_20 : Ref sig .tc := ⟨.hbm, 91, rfl⟩
abbrev main_call3_v0 : Ref sig .tc := ⟨.hbm, 92, rfl⟩
abbrev main_v61 : Ref sig .tc := ⟨.hbm, 93, rfl⟩
abbrev main_cst_21 : Ref sig .tc := ⟨.hbm, 94, rfl⟩
abbrev main_v62 : Ref sig .tc := ⟨.hbm, 95, rfl⟩
abbrev main_cst_22 : Ref sig .tc := ⟨.hbm, 96, rfl⟩
abbrev main_v63 : Ref sig .tc := ⟨.hbm, 97, rfl⟩
abbrev main_cst_23 : Ref sig .tc := ⟨.hbm, 98, rfl⟩
abbrev main_v64 : Ref sig .tc := ⟨.hbm, 99, rfl⟩
abbrev main_v65 : Ref sig .tc := ⟨.hbm, 100, rfl⟩
abbrev main_cst_24 : Ref sig .tc := ⟨.hbm, 101, rfl⟩
abbrev main_call4_v0 : Ref sig .tc := ⟨.hbm, 102, rfl⟩
abbrev main_v66 : Ref sig .tc := ⟨.hbm, 103, rfl⟩
abbrev main_cst_25 : Ref sig .tc := ⟨.hbm, 104, rfl⟩
abbrev main_v67 : Ref sig .tc := ⟨.hbm, 105, rfl⟩
abbrev main_v68 : Ref sig .tc := ⟨.hbm, 106, rfl⟩

abbrev nD : Nat := 1
abbrev τ : Topo := Topo.v7x

variable {F : FTy → Type} [FloatOps F]
-- ==== Proof.Base.lean ====
/-
  The set-up of the run: the program's 35 threads as the SparseCore launch theorem sees them, the ghost state
  (the launch's handshakes, the TensorCore pipeline's rounds, the counters of the tiles' copies), and the names of the
  three arrays and of a tile's buffers.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores are distinct and none of them is a scoped one; no buffer of a sequencer is shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The launch's handshakes; the TensorCore pipeline's rounds; the counters of the tiles' copies. -/
abbrev UH : Type := URounds (GSem nD τ sig) ℕ
abbrev UP : Type := URounds (GSem nD τ sig) Unit
abbrev UU : Type := UH × (UP × Counters)

/-- The resources of the proof. -/
abbrev MM (F : FTy → Type) : Type := MT nD τ sig (HIx 1) (Elt F) ℕ UU ℕ
local notation "𝕄" => MT nD τ sig (HIx 1) (Elt F) ℕ UU ℕ

abbrev EH : Emb UH (MT nD τ sig (HIx 1) (Elt F) ℕ UU ℕ) := embL
/-- The pipeline's rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays -/

abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

/-- The tile at grid coordinates `L`: its SparseCore, its number there, its thread. -/
abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

end Cert.Proof.Run
-- ==== Proof.Trip.lean ====
/-
  One trip of a tile's loop: sixteen columns at a time of 128 consecutive columns of one row are added to the
  twenty-four accumulators. The two buffers are read and not written; the accumulators move by `step`.
-/
module

public import proofs.«01_k».proof.Proof.Base

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_arg0_scv : Memref Cert.KernelIdeal.sig Kind.scVector Space.hbm Cert.KernelIdeal.S16x262144 EltTy.f32)
local notation "tV" => (Memref.whole Cert.KernelIdeal.main_arg1_scv : Memref Cert.KernelIdeal.sig Kind.scVector Space.hbm Cert.KernelIdeal.S16x262144 EltTy.f32)
local notation "oV" => (Memref.whole Cert.KernelIdeal.main_v0_scv : Memref Cert.KernelIdeal.sig Kind.scVector Space.hbm Cert.KernelIdeal.S1536 EltTy.f32)
local notation "aV" => (Memref.whole Cert.KernelIdeal.cc0_scratch4 : Memref Cert.KernelIdeal.sig Kind.scVector Space.vmem Cert.KernelIdeal.S48 EltTy.f32)

/-- The loop's carried values: twenty-four vectors of sixteen lanes. -/
abbrev st24 (F : FTy → Type) : Type := FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

/-- Three families of eight accumulators: of the losses, of the losses at positive labels, of the labels. -/
structure Accs (F : FTy → Type) where
  a : Fin 8 → FVec F S16 .f32
  b : Fin 8 → FVec F S16 .f32
  c : Fin 8 → FVec F S16 .f32

/-- The accumulators as the loop carries them. -/
def Accs.pack (s : Accs F) : st24 F :=
  (s.a 0, s.b 0, s.c 0, s.a 1, s.b 1, s.c 1, s.a 2, s.b 2, s.c 2, s.a 3, s.b 3, s.c 3, s.a 4, s.b 4, s.c 4, s.a 5, s.b 5, s.c 5, s.a 6, s.b 6, s.c 6, s.a 7, s.b 7, s.c 7)

/-- The sixteen elements trip `n` reads at its place `j` of a block `g`: row `n / 16`, from column `128 * (n % 16) + 16 * j`. -/
def vecAt (g : ℕ → ℕ → F .f32) (n : ℕ) (j : Fin 8) : Vec F S1x16 .f32 :=
  fun i => g (n / 16) (n % 16 * 128 + 16 * j.val + (i 1).val)

/-- What one trip makes of the accumulators. -/
def Accs.step (gx gt : ℕ → ℕ → F .f32) (n : ℕ) (s : Accs F) : Accs F where
  a := fun j => k0_pay3 (s.a j) (vecAt gx n j) (vecAt gt n j)
  b := fun j => k0_pay4 (s.b j) (vecAt gx n j) (vecAt gt n j)
  c := fun j => k0_pay5 (s.c j) (vecAt gt n j)

/-- What `n` trips make of them. -/
def Accs.run (gx gt : ℕ → ℕ → F .f32) (s : Accs F) : ℕ → Accs F
  | 0 => s
  | n + 1 => (Accs.run gx gt s n).step gx gt n

variable (d : Dev nD) (L : grid0.Coords)

/-- The rectangle a trip reads at its place `j`. -/
abbrev rowRect (k : Fin k0_t1_loop.trips) (j : Fin 8) : Rect S8x2048 :=
  Rect.unit (s := S8x2048) (k0_off2 k (BitVec.ofNat 32 (16 * j.val))) S1x16.size (k0_off2_inb k j)

/-- A trip of the first loop: from the two blocks it reads, the accumulators move by `step`; the blocks stay. -/
theorem trip_run (bX : Memref sig .scVector .vmem S8x2048 .f32) (hbX : bX.IsWhole) (bT : Memref sig .scVector .vmem S8x2048 .f32) (hbT : bT.IsWhole)
    (cX : Memref sig .scVector .vmem S8x2048 .f32) (hcX : cX.IsWhole) (cT : Memref sig .scVector .vmem S8x2048 .f32) (hcT : cT.IsWhole)
    (s0 s1 s2 s3 s4 s5 s6 : DmaSems sig S_) (v1 : BitVec 32) (v2 : FVec F S16 .f32)
    (fx : Buf (Elt F) (bX.view.loc (VT d L))) (ft : Buf (Elt F) (bT.view.loc (VT d L))) (gx gt : ℕ → ℕ → F .f32)
    (hx : ∀ (k : Fin k0_t1_loop.trips) (j : Fin 8), View.readAt (Elt F) bX.view (rowRect k j).toLoadRect fx = vecAt gx k.val j)
    (ht : ∀ (k : Fin k0_t1_loop.trips) (j : Fin 8), View.readAt (Elt F) bT.view (rowRect k j).toLoadRect ft = vecAt gt k.val j)
    (k : Fin k0_t1_loop.trips) (s : Accs F) :
    iprop((bX.view.loc (VT d L) ↦[bX.view.set]{fullShare} fx) ∗ (bT.view.loc (VT d L) ↦[bT.view.set]{fullShare} ft))
      ⊢ (wp frame (wpE (defs₀ (F := F)) 𝒱₀ (VT d L) none) Set.univ
          (k0_t1_body L xV (Memref.isWhole_whole _) tV (Memref.isWhole_whole _) oV (Memref.isWhole_whole _) bX hbX cX hcX bT hbT cT hcT aV (Memref.isWhole_whole _)
            s0 s1 s2 s3 s4 s5 s6 v1 v2 k s.pack) fun r =>
          iprop(⌜r = (s.step gx gt k.val).pack⌝ ∗ (bX.view.loc (VT d L) ↦[bX.view.set]{fullShare} fx) ∗ (bT.view.loc (VT d L) ↦[bT.view.set]{fullShare} ft)) : sProp 𝕄) := by
  iintro ⟨HX, HT⟩
  unfold Accs.pack k0_t1_body
  rw [k0_part1_eq_skeleton, k0_part2_eq_skeleton, k0_part3_eq_skeleton, k0_part4_eq_skeleton, k0_part5_eq_skeleton]
  unfold k0_part1_skel k0_part2_skel k0_part3_skel k0_part4_skel k0_part5_skel
  sl_exec
  sl_step
  isplitr
  · ipureintro
    have x0 := hx k 0; have x1 := hx k 1; have x2 := hx k 2; have x3 := hx k 3; have x4 := hx k 4; have x5 := hx k 5; have x6 := hx k 6; have x7 := hx k 7
    have t0 := ht k 0; have t1 := ht k 1; have t2 := ht k 2; have t3 := ht k 3; have t4 := ht k 4; have t5 := ht k 5; have t6 := ht k 6; have t7 := ht k 7
    simp only [Accs.step, ← x0, ← x1, ← x2, ← x3, ← x4, ← x5, ← x6, ← x7, ← t0, ← t1, ← t2, ← t3, ← t4, ← t5, ← t6, ← t7]
    rfl
  isplitl [HX]; · iexact HX
  iexact HT

/-- The third loop's trip is the first's (same buffers). -/
theorem t3_body_eq (arg2 : Memref sig .scVector .hbm S16x262144 .f32) (harg2 : arg2.IsWhole) (arg3 : Memref sig .scVector .hbm S16x262144 .f32) (harg3 : arg3.IsWhole)
    (arg4 : Memref sig .scVector .hbm S1536 .f32) (harg4 : arg4.IsWhole) (b5 : Memref sig .scVector .vmem S8x2048 .f32) (h5 : b5.IsWhole) (b6 : Memref sig .scVector .vmem S8x2048 .f32) (h6 : b6.IsWhole)
    (b7 : Memref sig .scVector .vmem S8x2048 .f32) (h7 : b7.IsWhole) (b8 : Memref sig .scVector .vmem S8x2048 .f32) (h8 : b8.IsWhole) (b9 : Memref sig .scVector .vmem S48 .f32) (h9 : b9.IsWhole)
    (s0 s1 s2 s3 s4 s5 s6 : DmaSems sig S_) (v1 : BitVec 32) (v2 : FVec F S16 .f32) (w0 w1 w2 w3 w4 w5 w6 w7 w8 w9 w10 w11 w12 w13 w14 w15 w16 w17 w18 w19 w20 w21 w22 w23 : FVec F S16 .f32) (v101 : BitVec 32) (v106 : BitVec 1) (v107 : BitVec 32) (k : Fin 128) (s : st24 F) :
    k0_t3_body L arg2 harg2 arg3 harg3 arg4 harg4 b5 h5 b6 h6 b7 h7 b8 h8 b9 h9 s0 s1 s2 s3 s4 s5 s6 w0 w1 w2 w3 w4 w5 w6 w7 w8 w9 w10 w11 w12 w13 w14 w15 w16 w17 w18 w19 w20 w21 w22 w23 v101 v106 v107 k s
      = k0_t1_body L arg2 harg2 arg3 harg3 arg4 harg4 b5 h5 b6 h6 b7 h7 b8 h8 b9 h9 s0 s1 s2 s3 s4 s5 s6 v1 v2 k s := rfl

/-- The second loop's trip is the first's at the other pair of buffers. -/
theorem t2_body_eq (arg2 : Memref sig .scVector .hbm S16x262144 .f32) (harg2 : arg2.IsWhole) (arg3 : Memref sig .scVector .hbm S16x262144 .f32) (harg3 : arg3.IsWhole)
    (arg4 : Memref sig .scVector .hbm S1536 .f32) (harg4 : arg4.IsWhole) (b5 : Memref sig .scVector .vmem S8x2048 .f32) (h5 : b5.IsWhole) (b6 : Memref sig .scVector .vmem S8x2048 .f32) (h6 : b6.IsWhole)
    (b7 : Memref sig .scVector .vmem S8x2048 .f32) (h7 : b7.IsWhole) (b8 : Memref sig .scVector .vmem S8x2048 .f32) (h8 : b8.IsWhole) (b9 : Memref sig .scVector .vmem S48 .f32) (h9 : b9.IsWhole)
    (s0 s1 s2 s3 s4 s5 s6 : DmaSems sig S_) (v1 : BitVec 32) (v2 : FVec F S16 .f32) (w0 w1 w2 w3 w4 w5 w6 w7 w8 w9 w10 w11 w12 w13 w14 w15 w16 w17 w18 w19 w20 w21 w22 w23 : FVec F S16 .f32) (v101 : BitVec 32) (v106 : BitVec 1) (v107 : BitVec 32) (k : Fin 128) (s : st24 F) :
    k0_t2_body L arg2 harg2 arg3 harg3 arg4 harg4 b5 h5 b6 h6 b7 h7 b8 h8 b9 h9 s0 s1 s2 s3 s4 s5 s6 w0 w1 w2 w3 w4 w5 w6 w7 w8 w9 w10 w11 w12 w13 w14 w15 w16 w17 w18 w19 w20 w21 w22 w23 v101 v106 v107 k s
      = k0_t1_body L arg2 harg2 arg3 harg3 arg4 harg4 b6 h6 b5 h5 b8 h8 b7 h7 b9 h9 s0 s1 s2 s3 s4 s5 s6 v1 v2 k s := rfl

end Cert.Proof.Run
-- ==== Proof.Tile.lean ====
/-
  One tile's run: its three blocks of `x` and of `t` copied in, summed over by the three loops, and its forty-eight
  partial sums copied out.
-/
module

public import proofs.«01_k».proof.Proof.Trip

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_arg0_scv : Memref Cert.KernelIdeal.sig Kind.scVector Space.hbm Cert.KernelIdeal.S16x262144 EltTy.f32)
local notation "tV" => (Memref.whole Cert.KernelIdeal.main_arg1_scv : Memref Cert.KernelIdeal.sig Kind.scVector Space.hbm Cert.KernelIdeal.S16x262144 EltTy.f32)
local notation "oV" => (Memref.whole Cert.KernelIdeal.main_v0_scv : Memref Cert.KernelIdeal.sig Kind.scVector Space.hbm Cert.KernelIdeal.S1536 EltTy.f32)
local notation "b0V" => (Memref.whole Cert.KernelIdeal.cc0_scratch0 : Memref Cert.KernelIdeal.sig Kind.scVector Space.vmem Cert.KernelIdeal.S8x2048 EltTy.f32)
local notation "b1V" => (Memref.whole Cert.KernelIdeal.cc0_scratch1 : Memref Cert.KernelIdeal.sig Kind.scVector Space.vmem Cert.KernelIdeal.S8x2048 EltTy.f32)
local notation "b2V" => (Memref.whole Cert.KernelIdeal.cc0_scratch2 : Memref Cert.KernelIdeal.sig Kind.scVector Space.vmem Cert.KernelIdeal.S8x2048 EltTy.f32)
local notation "b3V" => (Memref.whole Cert.KernelIdeal.cc0_scratch3 : Memref Cert.KernelIdeal.sig Kind.scVector Space.vmem Cert.KernelIdeal.S8x2048 EltTy.f32)
local notation "aV" => (Memref.whole Cert.KernelIdeal.cc0_scratch4 : Memref Cert.KernelIdeal.sig Kind.scVector Space.vmem Cert.KernelIdeal.S48 EltTy.f32)

variable (d : Dev nD) (L : grid0.Coords)

/-- The tile's cells of the DMA semaphores: the four of the double buffering, the three of the copies out. -/
abbrev csem (k : Nat) (hk : k < 7 := by decide) : DmaSem sig := ⟨k, Nat.lt_of_lt_of_le hk (by decide)⟩
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0 ∗ semVal (VT d L, SemLoc.dma (csem 6)) 0)

/-- The tile's three pieces of the output, as the body slices them. -/
abbrev oPc (q : Fin 3) : Memref sig .scVector .hbm S16 .f32 :=
  (oV).slice (Rect.unit (s := S1536) (k0_off5 L (BitVec.ofNat 32 (512 * q.val))) S16.size (k0_off5_inb L q)) (fun _ => rfl)

/-- The block of `x` or of `t` a tile's copy `q` takes. -/
abbrev srcRect (q : Fin 3) : Rect S16x262144 := Rect.unit (s := S16x262144) (k0_off1 L (BitVec.ofNat 32 q.val)) S8x2048.size (k0_off1_inb L q)

/-- The array's index at row `r` and column `c` (both wrapped into range). -/
def ix2 (r c : ℕ) : S16x262144.Idx := fun
  | 0 => ⟨r % 16, Nat.mod_lt _ (by decide)⟩
  | 1 => ⟨c % 262144, Nat.mod_lt _ (by decide)⟩

/-- Block `q` of tile `w` of an array, of 8 rows and 2048 columns: block number `3 w + q`, forty-eight to a row of blocks. -/
def blk (f : S16x262144.Idx → F .f32) (w q : ℕ) (r c : ℕ) : F .f32 :=
  f (ix2 ((3 * w + q) / 48 * 8 + r) ((3 * w + q) % 48 * 2048 + c))

/-- The tile's number, 0 to 31. -/
abbrev wid (L : grid0.Coords) : ℕ := 2 * (L 1).val + (L 0).val

theorem off1_eq : ∀ (i : grid0.Coords) (q : Fin 3), k0_off1 i (BitVec.ofNat 32 q.val)
    = ![(3 * wid i + q.val) / 48 * 8, (3 * wid i + q.val) % 48 * 2048] := by decide +kernel

theorem off2_eq : ∀ (k : Fin 128) (j : Fin 8), k0_off2 k (BitVec.ofNat 32 (16 * j.val)) = ![k.val / 16, k.val % 16 * 128 + 16 * j.val] := by
  decide +kernel

/-- What a trip reads at its place `j` of a buffer that a block has been copied into. -/
theorem row_block {κ : Kind} {sp : Space} (v : View sig κ sp S8x2048 .f32) (g : v.ty.Contents (Elt F)) (pay : S8x2048.Idx → F .f32) (gx : ℕ → ℕ → F .f32)
    (h : ∀ y : S8x2048.Idx, pay y = gx (y 0).val (y 1).val) (l : List (View.Piece (Elt F) S8x2048 .f32)) (k : Fin k0_t1_loop.trips) (j : Fin 8) :
    v.readAt (Elt F) (rowRect k j).toLoadRect (v.writes (Elt F) g (⟨Rect.whole S8x2048, pay⟩ :: l)) = vecAt gx k.val j := by
  funext i
  rw [View.readAt_apply]
  have hw := View.read_writes_cons_emb v g (Rect.whole S8x2048) pay l ((rowRect k j).toLoadRect.idx i)
  rw [Rect.emb_whole_apply] at hw
  rw [hw, h]
  have e := off2_eq k j
  have h0 : (i 0).val = 0 := by have : (i 0).val < 1 := (i 0).isLt; omega
  unfold vecAt
  congr 1
  · show k0_off2 k (BitVec.ofNat 32 (16 * j.val)) 0 + 1 * (i 0).val = _
    rw [e, h0]; simp
  · show k0_off2 k (BitVec.ofNat 32 (16 * j.val)) 1 + 1 * (i 1).val = _
    rw [e]; simp

/-- What a copy of block `q` of `x` lands: the block's elements. -/
theorem pay_x (f : S16x262144.Idx → F .f32) (q : Fin 3) (y : S8x2048.Idx) :
    View.read (Elt F) ((xV).slice (srcRect L q) (fun _ => rfl)).view f y = blk f (wid L) q.val (y 0).val (y 1).val := by
  rw [View.read_apply]
  show f _ = f _
  have e := off1_eq L q
  have h0 : (y 0).val < 8 := (y 0).isLt
  have h1 : (y 1).val < 2048 := (y 1).isLt
  have hw : wid L < 32 := by
    have a : (L 1).val < 16 := (L 1).isLt
    have b : (L 0).val < 2 := (L 0).isLt
    unfold wid; omega
  have hq : q.val < 3 := q.isLt
  congr 1; funext a
  match a with
  | 0 =>
    apply Fin.ext
    show k0_off1 L (BitVec.ofNat 32 q.val) 0 + 1 * (y 0).val = ((3 * wid L + q.val) / 48 * 8 + (y 0).val) % 16
    rw [e]; simp only [Matrix.cons_val_zero]; omega
  | 1 =>
    apply Fin.ext
    show k0_off1 L (BitVec.ofNat 32 q.val) 1 + 1 * (y 1).val = ((3 * wid L + q.val) % 48 * 2048 + (y 1).val) % 262144
    rw [e]; simp only [Matrix.cons_val_one, Matrix.cons_val_fin_one]; omega

/-- What a copy of block `q` of `t` lands. -/
theorem pay_t (f : S16x262144.Idx → F .f32) (q : Fin 3) (y : S8x2048.Idx) :
    View.read (Elt F) ((tV).slice (srcRect L q) (fun _ => rfl)).view f y = blk f (wid L) q.val (y 0).val (y 1).val :=
  pay_x L f q y

/-- The accumulators at zero. -/
def zeroAccs : Accs F := ⟨fun _ => k0_pay136, fun _ => k0_pay136, fun _ => k0_pay136⟩

/-- The accumulators after the tile's first `q` blocks. -/
def tileAccs (fX fT : S16x262144.Idx → F .f32) (w : ℕ) : ℕ → Accs F
  | 0 => zeroAccs
  | q + 1 => Accs.run (blk fX w q) (blk fT w q) (tileAccs fX fT w q) 128

/-- Eight vectors summed, first to last. -/
def sum8 (A : Fin 8 → FVec F S16 .f32) : FVec F S16 .f32 :=
  addf (addf (addf (addf (addf (addf (addf (A 0) (A 1)) (A 2)) (A 3)) (A 4)) (A 5)) (A 6)) (A 7)

/-- The sixteen partial sums tile `w` leaves in row `q` of the output: of the losses, of the label times the loss, of the labels. -/
def tileOut (fX fT : S16x262144.Idx → F .f32) (w : ℕ) : ℕ → FVec F S16 .f32
  | 0 => sum8 (tileAccs fX fT w 3).a
  | 1 => sum8 (tileAccs fX fT w 3).b
  | _ + 2 => sum8 (tileAccs fX fT w 3).c

/-- The lane `j` of a vector of sixteen (wrapped into range). -/
def ix16 (j : ℕ) : S16.Idx := fun
  | 0 => ⟨j % 16, Nat.mod_lt _ (by decide)⟩

/-- What the SparseCore leaves in its output: row `q` of 512 holds, tile after tile, the sixteen partial sums of each tile. -/
def scOut (fX fT : S16x262144.Idx → F .f32) (j : S1536.Idx) : F .f32 :=
  tileOut fX fT ((j 0).val % 512 / 16) ((j 0).val / 512) (ix16 (j 0).val)

theorem off5_eq : ∀ (i : grid0.Coords) (q : Fin 3), k0_off5 i (BitVec.ofNat 32 (512 * q.val)) = ![512 * q.val + 16 * wid i] := by
  decide +kernel

/-- A tile's piece of the output, once written with what the tile computes for it, holds `scOut` there. -/
theorem oPc_val (fX fT : S16x262144.Idx → F .f32) (q : Fin 3) (o0 : Buf (Elt F) ((oPc L q).view.loc (VT d L))) (pay : S16.Idx → F .f32)
    (h : pay = tileOut fX fT (wid L) q.val) :
    (((oPc L q).view.loc (VT d L) ↦[(oPc L q).view.set]{fullShare} (oPc L q).view.writes (Elt F) o0 [⟨Rect.whole S16, pay⟩] : sProp 𝕄))
      = ((oPc L q).view.loc (VT d L) ↦[(oPc L q).view.set]{fullShare} scOut fX fT) := by
  refine pointsTo_congr fun i hi => ?_
  obtain ⟨y, -, rfl⟩ := Finset.mem_map.mp hi
  have hr := congrFun (View.read_writes_whole (Val := Elt F) (oPc L q).view o0 pay) y
  rw [View.read_apply] at hr
  have hy : (y 0).val < 16 := (y 0).isLt
  have hq : q.val < 3 := q.isLt
  have hw : wid L < 32 := by
    have a : (L 1).val < 16 := (L 1).isLt
    have b : (L 0).val < 2 := (L 0).isLt
    unfold wid; omega
  have e0 : (((oPc L q).view.emb y : S1536.Idx) 0).val = 512 * q.val + 16 * wid L + (y 0).val := by
    show k0_off5 L (BitVec.ofNat 32 (512 * q.val)) 0 + 1 * (y 0).val = _
    rw [off5_eq]; simp
  refine Eq.trans hr ?_
  show pay y = tileOut fX fT ((((oPc L q).view.emb y : S1536.Idx) 0).val % 512 / 16) ((((oPc L q).view.emb y : S1536.Idx) 0).val / 512) (ix16 (((oPc L q).view.emb y : S1536.Idx) 0).val)
  rw [e0, show (512 * q.val + 16 * wid L + (y 0).val) % 512 / 16 = wid L by omega, show (512 * q.val + 16 * wid L + (y 0).val) / 512 = q.val by omega, h]
  congr 1
  funext a
  match a with
  | 0 => apply Fin.ext; show (y 0).val = (512 * q.val + 16 * wid L + (y 0).val) % 16; omega

/-- The three stores into the tile's row of 48, newest first. -/
abbrev stores48 (p0 p1 p2 : S16.Idx → F .f32) : List (View.Piece (Elt F) S48 .f32) :=
  [⟨Rect.unit (s := S48) ![32] S16.size inb_S48_S16_32, p2⟩, ⟨Rect.unit (s := S48) ![16] S16.size inb_S48_S16_16, p1⟩,
    ⟨Rect.unit (s := S48) ![0] S16.size inb_S48_S16_0, p0⟩]

theorem read48_2 (g : (aV).view.ty.Contents (Elt F)) (p0 p1 p2 : S16.Idx → F .f32) :
    View.read (Elt F) ((aV).slice (Rect.unit (s := S48) ![32] S16.size inb_S48_S16_32) (fun _ => rfl)).view ((aV).view.writes (Elt F) g (stores48 p0 p1 p2)) = p2 := by
  funext y
  exact View.read_writes_cons_emb (aV).view g (Rect.unit (s := S48) ![32] S16.size inb_S48_S16_32) p2 _ y

theorem read48_1 (g : (aV).view.ty.Contents (Elt F)) (p0 p1 p2 : S16.Idx → F .f32) :
    View.read (Elt F) ((aV).slice (Rect.unit (s := S48) ![16] S16.size inb_S48_S16_16) (fun _ => rfl)).view ((aV).view.writes (Elt F) g (stores48 p0 p1 p2)) = p1 := by
  funext y
  have hy : (y 0).val < 16 := (y 0).isLt
  have h1 := View.read_writes_cons_hit_of_coords (aV).view g (Rect.unit (s := S48) ![16] S16.size inb_S48_S16_16) p1
    [⟨Rect.unit (s := S48) ![0] S16.size inb_S48_S16_0, p0⟩] y ((Rect.unit (s := S48) ![16] S16.size inb_S48_S16_16).emb y) (fun _ => rfl)
  refine Eq.trans ?_ h1
  refine View.read_writes_cons_miss_of_axis (aV).view g _ _ ((Rect.unit (s := S48) ![16] S16.size inb_S48_S16_16).emb y) 0 32 16 rfl rfl rfl (Or.inl ?_)
  show 16 + 1 * (y 0).val < 32
  omega

theorem read48_0 (g : (aV).view.ty.Contents (Elt F)) (p0 p1 p2 : S16.Idx → F .f32) :
    View.read (Elt F) ((aV).slice (Rect.unit (s := S48) ![0] S16.size inb_S48_S16_0) (fun _ => rfl)).view ((aV).view.writes (Elt F) g (stores48 p0 p1 p2)) = p0 := by
  funext y
  have hy : (y 0).val < 16 := (y 0).isLt
  have h1 := View.read_writes_cons_hit_of_coords (aV).view g (Rect.unit (s := S48) ![0] S16.size inb_S48_S16_0) p0
    [] y ((Rect.unit (s := S48) ![0] S16.size inb_S48_S16_0).emb y) (fun _ => rfl)
  refine Eq.trans ?_ h1
  refine (View.read_writes_cons_miss_of_axis (aV).view g _ _ ((Rect.unit (s := S48) ![0] S16.size inb_S48_S16_0).emb y) 0 32 16 rfl rfl rfl (Or.inl ?_)).trans
    (View.read_writes_cons_miss_of_axis (aV).view g _ _ ((Rect.unit (s := S48) ![0] S16.size inb_S48_S16_0).emb y) 0 16 16 rfl rfl rfl (Or.inl ?_))
  · show 0 + 1 * (y 0).val < 32
    omega
  · show 0 + 1 * (y 0).val < 16
    omega

theorem pay152_eq (A : Fin 8 → FVec F S16 .f32) : k0_pay152 (A 5) (A 6) (A 7) (k0_pay150 (A 0) (A 1) (A 2) (A 3) (A 4)) = sum8 A := by
  unfold k0_pay152 k0_pay150 sum8
  exact funext fun i => congrArg _ (Shape.reshapeEquiv_self _ i)

theorem pay153_eq (A : Fin 8 → FVec F S16 .f32) : k0_pay153 (A 5) (A 6) (A 7) (k0_pay151 (A 0) (A 1) (A 2) (A 3) (A 4)) = sum8 A := by
  unfold k0_pay153 k0_pay151 sum8
  exact funext fun i => congrArg _ (Shape.reshapeEquiv_self _ i)

theorem pay154_eq (A : Fin 8 → FVec F S16 .f32) : k0_pay154 (A 4) (A 5) (A 6) (A 7) (k0_pay149 (A 0) (A 1) (A 2) (A 3)) = sum8 A := by
  unfold k0_pay154 k0_pay149 sum8
  exact funext fun i => congrArg _ (Shape.reshapeEquiv_self _ i)

theorem tileAccs_pack (fX fT : S16x262144.Idx → F .f32) (w q n : ℕ) (h : n = 128) {A B : Accs F} (hA : A = tileAccs fX fT w q) (hB : B = tileAccs fX fT w (q + 1)) :
    (Accs.run (blk fX w q) (blk fT w q) A n).pack = B.pack := by
  subst h hA hB; rfl

set_option maxHeartbeats 1000000 in
theorem tile_run (fX fT : S16x262144.Idx → F .f32) (qx qt : PosShare TreeShare) (O : CellTallies nD τ sig (HIx 1)) (W : Waits sig (HIx 1))
    (o0 : Buf (Elt F) (oLoc d))
    (g0 : Buf (Elt F) ((b0V).view.loc (VT d L))) (g1 : Buf (Elt F) ((b1V).view.loc (VT d L))) (g2 : Buf (Elt F) ((b2V).view.loc (VT d L)))
    (g3 : Buf (Elt F) ((b3V).view.loc (VT d L))) (g4 : Buf (Elt F) ((aV).view.loc (VT d L))) :
    (iprop(Transfers.MayWaits (VT d L) (default : HIx 1) O
        ∗ ((xV).view.loc (VT d L) ↦{Transfers.shareTokN qx 0} fX)
        ∗ ((xV).view.loc (VT d L) ↦{Transfers.shareTokN qx 1} fX)
        ∗ ((tV).view.loc (VT d L) ↦{Transfers.shareTokN qt 2} fT)
        ∗ ((tV).view.loc (VT d L) ↦{Transfers.shareTokN qt 3} fT)
        ∗ ((oPc L 0).view.loc (VT d L) ↦[(oPc L 0).view.set]{fullShare} o0)
        ∗ ((oPc L 1).view.loc (VT d L) ↦[(oPc L 1).view.set]{fullShare} o0)
        ∗ ((oPc L 2).view.loc (VT d L) ↦[(oPc L 2).view.set]{fullShare} o0)
        ∗ ((b0V).view.loc (VT d L) ↦[(b0V).view.set]{fullShare} g0)
        ∗ ((b1V).view.loc (VT d L) ↦[(b1V).view.set]{fullShare} g1)
        ∗ ((b2V).view.loc (VT d L) ↦[(b2V).view.set]{fullShare} g2)
        ∗ ((b3V).view.loc (VT d L) ↦[(b3V).view.set]{fullShare} g3)
        ∗ ((aV).view.loc (VT d L) ↦[(aV).view.set]{fullShare} g4)
        ∗ cells0 d L
        ∗ owes (VT d L) O W) : sProp 𝕄)
      ⊢ wp frame (wpE (defs₀ (F := F)) 𝒱₀ (VT d L) none) Set.univ
          (cc0__sc_body L xV (Memref.isWhole_whole _) tV (Memref.isWhole_whole _) oV (Memref.isWhole_whole _)
            b0V (Memref.isWhole_whole _) b1V (Memref.isWhole_whole _) b2V (Memref.isWhole_whole _) b3V (Memref.isWhole_whole _) aV (Memref.isWhole_whole _)
            cc0_scratch5 cc0_scratch6 cc0_scratch7 cc0_scratch8 cc0_scoped0 cc0_scoped1 cc0_scoped2)
          fun _ => iprop(((xV).view.loc (VT d L) ↦{Transfers.shareTokN qx 0} fX)
            ∗ ((xV).view.loc (VT d L) ↦{Transfers.shareTokN qx 1} fX)
            ∗ ((tV).view.loc (VT d L) ↦{Transfers.shareTokN qt 2} fT)
            ∗ ((tV).view.loc (VT d L) ↦{Transfers.shareTokN qt 3} fT)
            ∗ ((oPc L 0).view.loc (VT d L) ↦[(oPc L 0).view.set]{fullShare} scOut fX fT)
            ∗ ((oPc L 1).view.loc (VT d L) ↦[(oPc L 1).view.set]{fullShare} scOut fX fT)
            ∗ ((oPc L 2).view.loc (VT d L) ↦[(oPc L 2).view.set]{fullShare} scOut fX fT)
            ∗ (∃ g, (b0V).view.loc (VT d L) ↦[(b0V).view.set]{fullShare} g)
            ∗ (∃ g, (b1V).view.loc (VT d L) ↦[(b1V).view.set]{fullShare} g)
            ∗ (∃ g, (b2V).view.loc (VT d L) ↦[(b2V).view.set]{fullShare} g)
            ∗ (∃ g, (b3V).view.loc (VT d L) ↦[(b3V).view.set]{fullShare} g)
            ∗ (∃ g, (aV).view.loc (VT d L) ↦[(aV).view.set]{fullShare} g)
            ∗ cells0 d L
            ∗ ∃ W', ⌜∀ p ∈ W', p ∈ W ∨ p.2 = default⌝ ∗ owes (VT d L) O W') := by
  obtain ⟨A0, hA0⟩ : ∃ A, A = tileAccs fX fT (wid L) 0 := ⟨_, rfl⟩
  obtain ⟨A1, hA1⟩ : ∃ A, A = tileAccs fX fT (wid L) 1 := ⟨_, rfl⟩
  obtain ⟨A2, hA2⟩ : ∃ A, A = tileAccs fX fT (wid L) 2 := ⟨_, rfl⟩
  obtain ⟨A3, hA3⟩ : ∃ A, A = tileAccs fX fT (wid L) 3 := ⟨_, rfl⟩
  iintro ⟨#Hmw, HX0, HX1, HT0, HT1, HO0, HO1, HO2, HB0, HB1, HB2, HB3, HA, ⟨Hc0, Hc1, Hc2, Hc3, Hc4, Hc5, Hc6⟩, HO⟩
  rw [cc0__sc_body_eq_skeleton]
  unfold cc0__sc_body_skel
  rw [k0_part16_eq_skeleton, k0_part17_eq_skeleton, k0_part18_eq_skeleton, k0_part19_eq_skeleton, k0_part20_eq_skeleton]
  unfold k0_part16_skel k0_part17_skel k0_part18_skel k0_part19_skel k0_part20_skel
  sl_exec (disch := exact View.amount_pos _ _ (show 0 < S8x2048.numel by decide))
  rw [wp_bind]
  sl_for (fun (n : ℕ) (st : st24 F) => iprop(⌜st = (Accs.run (blk fX (wid L) 0) (blk fT (wid L) 0) A0 n).pack⌝
      ∗ ((b0V).view.loc (VT d L) ↦[(b0V).view.set]{fullShare} (b0V).view.writes (Elt F) g0 [⟨Rect.whole cc0_scratch0.ty.shape, tile_run.sl.dma0 L fX⟩])
      ∗ ((b2V).view.loc (VT d L) ↦[(b2V).view.set]{fullShare} (b2V).view.writes (Elt F) g2 [⟨Rect.whole cc0_scratch2.ty.shape, tile_run.sl.dma0_1 L fT⟩]))) $$ [HB0 HB2]
  case region =>
    intro k st
    iintro ⟨%hst, HX, HT⟩
    subst hst
    iapply (trip_run d L b0V (Memref.isWhole_whole _) b2V (Memref.isWhole_whole _) b1V (Memref.isWhole_whole _) b3V (Memref.isWhole_whole _)
      cc0_scratch5 cc0_scratch6 cc0_scratch7 cc0_scratch8 cc0_scoped0 cc0_scoped1 cc0_scoped2 0#32 k0_pay136 _ _ (blk fX (wid L) 0) (blk fT (wid L) 0)
      (row_block _ _ _ _ (pay_x L fX 0) _) (row_block _ _ _ _ (pay_t L fT 0) _) k (Accs.run (blk fX (wid L) 0) (blk fT (wid L) 0) A0 k.val))
    isplitl [HX]; · iexact HX
    iexact HT
  · isplitr
    · ipureintro; subst hA0; rfl
    isplitl [HB0]; · iexact HB0
    iexact HB2
  iintro %st1 ⟨%hst1, HB0, HB2⟩
  replace hst1 := hst1.trans (tileAccs_pack fX fT (wid L) 0 _ (by decide) hA0 hA1)
  subst hst1
  sl_exec (disch := exact View.amount_pos _ _ (show 0 < S8x2048.numel by decide))
  rw [wp_bind]
  sl_for (fun (n : ℕ) (st : st24 F) => iprop(⌜st = (Accs.run (blk fX (wid L) 1) (blk fT (wid L) 1) A1 n).pack⌝
      ∗ ((b1V).view.loc (VT d L) ↦[(b1V).view.set]{fullShare} (b1V).view.writes (Elt F) g1 [⟨Rect.whole cc0_scratch1.ty.shape, tile_run.sl.dma0_2 L fX⟩])
      ∗ ((b3V).view.loc (VT d L) ↦[(b3V).view.set]{fullShare} (b3V).view.writes (Elt F) g3 [⟨Rect.whole cc0_scratch3.ty.shape, tile_run.sl.dma0_3 L fT⟩]))) $$ [HB1 HB3]
  case region =>
    intro k st
    iintro ⟨%hst, HX, HT⟩
    subst hst
    iapply (trip_run d L b1V (Memref.isWhole_whole _) b3V (Memref.isWhole_whole _) b0V (Memref.isWhole_whole _) b2V (Memref.isWhole_whole _)
      cc0_scratch5 cc0_scratch6 cc0_scratch7 cc0_scratch8 cc0_scoped0 cc0_scoped1 cc0_scoped2 0#32 k0_pay136 _ _ (blk fX (wid L) 1) (blk fT (wid L) 1)
      (row_block _ _ _ _ (pay_x L fX 1) _) (row_block _ _ _ _ (pay_t L fT 1) _) k (Accs.run (blk fX (wid L) 1) (blk fT (wid L) 1) A1 k.val))
    isplitl [HX]; · iexact HX
    iexact HT
  · isplitr
    · ipureintro; exact (rfl : A1.pack = _)
    isplitl [HB1]; · iexact HB1
    iexact HB3
  iintro %st2 ⟨%hst2, HB1, HB3⟩
  replace hst2 := hst2.trans (tileAccs_pack fX fT (wid L) 1 _ (by decide) hA1 hA2)
  subst hst2
  sl_exec (disch := exact View.amount_pos _ _ (show 0 < S8x2048.numel by decide))
  sl_for (fun (n : ℕ) (st : st24 F) => iprop(⌜st = (Accs.run (blk fX (wid L) 2) (blk fT (wid L) 2) A2 n).pack⌝
      ∗ ((b0V).view.loc (VT d L) ↦[(b0V).view.set]{fullShare} (b0V).view.writes (Elt F) ((b0V).view.junk) [⟨Rect.whole cc0_scratch0.ty.shape, tile_run.sl.dma0_4 L fX⟩, ⟨Rect.whole cc0_scratch0.ty.shape, tile_run.sl.dma0 L fX⟩])
      ∗ ((b2V).view.loc (VT d L) ↦[(b2V).view.set]{fullShare} (b2V).view.writes (Elt F) ((b2V).view.junk) [⟨Rect.whole cc0_scratch2.ty.shape, tile_run.sl.dma0_5 L fT⟩, ⟨Rect.whole cc0_scratch2.ty.shape, tile_run.sl.dma0_1 L fT⟩]))) $$ [HB0 HB2]
  case region =>
    intro k st
    iintro ⟨%hst, HX, HT⟩
    subst hst
    iapply (trip_run d L b0V (Memref.isWhole_whole _) b2V (Memref.isWhole_whole _) b1V (Memref.isWhole_whole _) b3V (Memref.isWhole_whole _)
      cc0_scratch5 cc0_scratch6 cc0_scratch7 cc0_scratch8 cc0_scoped0 cc0_scoped1 cc0_scoped2 0#32 k0_pay136 _ _ (blk fX (wid L) 2) (blk fT (wid L) 2)
      (row_block _ _ _ _ (pay_x L fX 2) _) (row_block _ _ _ _ (pay_t L fT 2) _) k (Accs.run (blk fX (wid L) 2) (blk fT (wid L) 2) A2 k.val))
    isplitl [HX]; · iexact HX
    iexact HT
  · isplitr
    · ipureintro; exact (rfl : A2.pack = _)
    isplitl [HB0]; · iexact HB0
    iexact HB2
  iintro %st3 ⟨%hst3, HB0, HB2⟩
  replace hst3 := hst3.trans (tileAccs_pack fX fT (wid L) 2 _ (by decide) hA2 hA3)
  subst hst3
  sl_exec (disch := exact View.amount_pos _ _ (show 0 < S16.numel by decide))
  sl_step
  have e0 : tile_run.sl.dma6 d L g4 A3 = tileOut fX fT (wid L) 0 := by
    subst hA3; exact (read48_0 g4 _ _ _).trans (pay152_eq _)
  have e1 : tile_run.sl.dma6_1 d L g4 A3 = tileOut fX fT (wid L) 1 := by
    subst hA3; exact (read48_1 g4 _ _ _).trans (pay153_eq _)
  have e2 : tile_run.sl.dma6_2 d L g4 A3 = tileOut fX fT (wid L) 2 := by
    subst hA3; exact (read48_2 g4 _ _ _).trans (pay154_eq _)
  ihave HO0 := (Entails.of_eq (oPc_val d L fX fT 0 o0 _ e0)) $$ HO0
  ihave HO1 := (Entails.of_eq (oPc_val d L fX fT 1 o0 _ e1)) $$ HO1
  ihave HO2 := (Entails.of_eq (oPc_val d L fX fT 2 o0 _ e2)) $$ HO2
  isplitl [HX0]; · iexact HX0
  isplitl [HX1]; · iexact HX1
  isplitl [HT0]; · iexact HT0
  isplitl [HT1]; · iexact HT1
  isplitl [HO0]; · iexact HO0
  isplitl [HO1]; · iexact HO1
  isplitl [HO2]; · iexact HO2
  isplitl [HB0]; · iexists _; iexact HB0
  isplitl [HB1]; · iexists _; iexact HB1
  isplitl [HB2]; · iexists _; iexact HB2
  isplitl [HB3]; · iexists _; iexact HB3
  isplitl [HA]; · iexists _; iexact HA
  isplitl [Hc0 Hc1 Hc2 Hc3 Hc4 Hc5 Hc6]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    iexact Hc6
  iexists (insert (SemLoc.dma (csem 6), default) (insert (SemLoc.dma (csem 5), default) (insert (SemLoc.dma (csem 4), default) (insert (SemLoc.dma (csem 2), default) (insert (SemLoc.dma (csem 0), default) (insert (SemLoc.dma (csem 3), default) (insert (SemLoc.dma (csem 1), default) (insert (SemLoc.dma (csem 2), default) (insert (SemLoc.dma (csem 0), default) W)))))))))
  isplitr [HO]
  · ipureintro
    intro p hp
    simp only [Finset.mem_insert] at hp
    rcases hp with rfl | rfl | rfl | rfl | rfl | rfl | rfl | rfl | rfl | hp
    all_goals first | exact Or.inr rfl | exact Or.inl hp
  iexact HO

end Cert.Proof.Run
-- ==== Proof.Tasks.lean ====
/-
  The launch of the SparseCore call: what each SparseCore and each tile is handed and hands back, the obligation of a
  tile from its run, and how a SparseCore's operands split among its tiles and join again.
-/
module

public import proofs.«01_k».proof.Proof.Tile

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_arg0_scv : Memref Cert.KernelIdeal.sig Kind.scVector Space.hbm Cert.KernelIdeal.S16x262144 EltTy.f32)
local notation "tV" => (Memref.whole Cert.KernelIdeal.main_arg1_scv : Memref Cert.KernelIdeal.sig Kind.scVector Space.hbm Cert.KernelIdeal.S16x262144 EltTy.f32)
local notation "oV" => (Memref.whole Cert.KernelIdeal.main_v0_scv : Memref Cert.KernelIdeal.sig Kind.scVector Space.hbm Cert.KernelIdeal.S1536 EltTy.f32)
local notation "b0V" => (Memref.whole Cert.KernelIdeal.cc0_scratch0 : Memref Cert.KernelIdeal.sig Kind.scVector Space.vmem Cert.KernelIdeal.S8x2048 EltTy.f32)
local notation "b1V" => (Memref.whole Cert.KernelIdeal.cc0_scratch1 : Memref Cert.KernelIdeal.sig Kind.scVector Space.vmem Cert.KernelIdeal.S8x2048 EltTy.f32)
local notation "b2V" => (Memref.whole Cert.KernelIdeal.cc0_scratch2 : Memref Cert.KernelIdeal.sig Kind.scVector Space.vmem Cert.KernelIdeal.S8x2048 EltTy.f32)
local notation "b3V" => (Memref.whole Cert.KernelIdeal.cc0_scratch3 : Memref Cert.KernelIdeal.sig Kind.scVector Space.vmem Cert.KernelIdeal.S8x2048 EltTy.f32)
local notation "aV" => (Memref.whole Cert.KernelIdeal.cc0_scratch4 : Memref Cert.KernelIdeal.sig Kind.scVector Space.vmem Cert.KernelIdeal.S48 EltTy.f32)

variable (m : (ℓ : Loc nD τ sig) → Buf (Elt F) ℓ)

/-! ## What is handed out -/

/-- The places of the output that tile `w` writes. -/
def oSet (w : ℕ) : Finset S1536.Idx := Finset.univ.filter fun j => (j 0).val % 512 / 16 = w
/-- The places of the output that SparseCore `c` writes. -/
def coreSet (c : ℕ) : Finset S1536.Idx := Finset.univ.filter fun j => (j 0).val % 512 / 16 % 2 = c

/-- SparseCore `c`'s read share of an input, and tile `i`'s of that. -/
abbrev qC (c : ℕ) : PosShare TreeShare := Transfers.shareTokN fullShare c
abbrev qT (c i : ℕ) : PosShare TreeShare := Transfers.shareTokN (qC c) i

/-- What the SparseCore call leaves in its output, from the memory at the launch. -/
abbrev scVal (d : Dev nD) : Buf (Elt F) (oLoc d) := scOut (m (xLoc d)) (m (tLoc d))

abbrev coreIn (d : Dev nD) (c : ℕ) (f : Buf (Elt F) (oLoc d)) : sProp 𝕄 :=
  iprop((xLoc d ↦{qC c} m (xLoc d)) ∗ (tLoc d ↦{qC c} m (tLoc d)) ∗ (oLoc d ↦[coreSet c]{fullShare} f))
abbrev tileIn (d : Dev nD) (c i : ℕ) (f : Buf (Elt F) (oLoc d)) : sProp 𝕄 :=
  iprop((xLoc d ↦{qT c i} m (xLoc d)) ∗ (tLoc d ↦{qT c i} m (tLoc d)) ∗ (oLoc d ↦[oSet (2 * i + c)]{fullShare} f))

/-- A SparseCore takes a read share of both inputs and its places of the output, and each of its tiles a share of those. -/
def P : (K (F := F)).Pay (nD := nD) (Val := Elt F) (Name := ℕ) (U := UU) where
  st := fun q d c => match q with | 0 => coreIn m d c.val (m (oLoc d))
  dn := fun q d c => match q with | 0 => coreIn m d c.val (scVal m d)
  go := fun q d c i => match q with | 0 => tileIn m d c.val i.val (m (oLoc d))
  td := fun q d c i => match q with | 0 => tileIn m d c.val i.val (scVal m d)
  x := fun _ _ => iprop(emp)

instance P_storable : (P (F := F) m).IsStorable where
  st q d c := match q with | 0 => (inferInstance : BI.Storable (upEmb : UEmb _ 𝕄) (coreIn m d c.val (m (oLoc d))))
  dn q d c := match q with | 0 => (inferInstance : BI.Storable (upEmb : UEmb _ 𝕄) (coreIn m d c.val (scVal m d)))
  go q d c i := match q with | 0 => (inferInstance : BI.Storable (upEmb : UEmb _ 𝕄) (tileIn m d c.val i.val (m (oLoc d))))
  td q d c i := match q with | 0 => (inferInstance : BI.Storable (upEmb : UEmb _ 𝕄) (tileIn m d c.val i.val (scVal m d)))

/-! ## The tile -/

section Tile

variable (d : Dev nD) (L : grid0.Coords)

abbrev dcell (k : Fin 7) : GSem nD τ sig := (VT d L, .dma (csem k.val k.isLt))

theorem dcell_mem (k : Fin 7) : dcell d L k ∈ ownCells (VT d L) :=
  mem_ownCells.mpr ⟨rfl, (show ∀ k : Fin 7, (SemLoc.dma (csem k.val k.isLt) : SemLoc sig).isScoped .scVector = true by decide) k⟩

/-- The tile's own cells at zero: the seven the body names, and the rest. -/
theorem ownSems0_V :
    (ownSems0 (VT d L) : sProp 𝕄)
      = iprop(cells0 d L ∗ bigSep ((ownCells (VT d L)) \ Finset.univ.image (dcell d L)) fun g => semVal g 0) := by
  unfold SparseCore.Cfg.ownSems0
  rw [SparseCore.bigSep_sdiff_split' (t := Finset.univ.image (dcell d L)) (Finset.image_subset_iff.mpr fun k _ => dcell_mem d L k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

abbrev tref (b : Ref sig .scVector) : DevRef τ sig := (Proc.scVector (cV L) (jV L)).devRef b

theorem tref_ne {a b : Ref sig .scVector} (h : a ≠ b) : tref L a ≠ tref L b := fun e => h (Proc.devRef_injective _ e)

/-- The tile's own buffers: the five the body names, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ (∃ f, (VT d L).loc cc0_scratch4 ↦{fullShare} f)
          ∗ bigSep ((((((ownRefs (τ := τ) (.scVector (cV L) (jV L))).erase (tref L cc0_scratch0)).erase (tref L cc0_scratch1)).erase
              (tref L cc0_scratch2)).erase (tref L cc0_scratch3)).erase (tref L cc0_scratch4))
              fun b => iprop(∃ f, ((d, b) : Loc nD τ sig) ↦{fullShare} f)) := by
  have own : ∀ b : Ref sig .scVector, (tref L b).owner = _ → tref L b ∈ ownRefs (τ := τ) (.scVector (cV L) (jV L)) :=
    fun b h => SparseCore.Cfg.mem_ownRefs_of_owner (p := Proc.scVector (cV L) (jV L)) (b := tref L b) h
  unfold SparseCore.Cfg.ownBufs
  refine (SparseCore.bigSep_erase' (own cc0_scratch0 rfl)).trans ?_
  rw [SparseCore.bigSep_erase' (Finset.mem_erase.mpr ⟨tref_ne L (by decide), own cc0_scratch1 rfl⟩),
    SparseCore.bigSep_erase' (Finset.mem_erase.mpr ⟨tref_ne L (by decide), Finset.mem_erase.mpr ⟨tref_ne L (by decide), own cc0_scratch2 rfl⟩⟩),
    SparseCore.bigSep_erase' (Finset.mem_erase.mpr ⟨tref_ne L (by decide), Finset.mem_erase.mpr ⟨tref_ne L (by decide),
      Finset.mem_erase.mpr ⟨tref_ne L (by decide), own cc0_scratch3 rfl⟩⟩⟩),
    SparseCore.bigSep_erase' (Finset.mem_erase.mpr ⟨tref_ne L (by decide), Finset.mem_erase.mpr ⟨tref_ne L (by decide),
      Finset.mem_erase.mpr ⟨tref_ne L (by decide), Finset.mem_erase.mpr ⟨tref_ne L (by decide), own cc0_scratch4 rfl⟩⟩⟩⟩)]

/-- A read share as four tokens and what stays. -/
theorem toks4 {ℓ : Loc nD τ sig} (q : PosShare TreeShare) (f : Buf (Elt F) ℓ) :
    (ℓ ↦{q} f : sProp 𝕄) ⊣⊢ iprop((ℓ ↦{Transfers.shareDrop q 4} f) ∗ (ℓ ↦{Transfers.shareTokN q 0} f) ∗ (ℓ ↦{Transfers.shareTokN q 1} f)
      ∗ (ℓ ↦{Transfers.shareTokN q 2} f) ∗ (ℓ ↦{Transfers.shareTokN q 3} f)) := by
  have h : (ℓ ↦{q} f : sProp 𝕄) ⊣⊢ iprop((ℓ ↦{Transfers.shareDrop q 4} f) ∗ bigSep (Finset.range 4) fun i => ℓ ↦{Transfers.shareTokN q i} f) :=
    Transfers.pointsTo_toks_range (ℓ := ℓ) (S := Finset.univ) (f := f) q 4
  rw [show Finset.range 4 = {0, 1, 2, 3} by decide, SparseCore.bigSep_insert' (by decide), SparseCore.bigSep_insert' (by decide),
    SparseCore.bigSep_insert' (by decide), bigSep_singleton] at h
  exact h

theorem oPc_mem (q : Fin 3) (j : S1536.Idx) : j ∈ (oPc L q).view.set ↔ 512 * q.val + 16 * wid L ≤ (j 0).val ∧ (j 0).val < 512 * q.val + 16 * wid L + 16 := by
  have e0 : ∀ y : S16.Idx, (((oPc L q).view.emb y : S1536.Idx) 0).val = 512 * q.val + 16 * wid L + (y 0).val := fun y => by
    show k0_off5 L (BitVec.ofNat 32 (512 * q.val)) 0 + 1 * (y 0).val = _
    rw [off5_eq]; simp
  constructor
  · intro h
    obtain ⟨y, -, rfl⟩ := Finset.mem_map.mp h
    have hy : (y 0).val < 16 := (y 0).isLt
    have := e0 y
    constructor
    · exact this ▸ Nat.le_add_right _ _
    · exact this ▸ by omega
  · rintro ⟨h1, h2⟩
    refine Finset.mem_map.mpr ⟨ix16 ((j 0).val - (512 * q.val + 16 * wid L)), Finset.mem_univ _, ?_⟩
    funext a
    match a with
    | 0 =>
      apply Fin.ext
      refine (e0 _).trans ?_
      show 512 * q.val + 16 * wid L + ((j 0).val - (512 * q.val + 16 * wid L)) % 16 = (j 0).val
      omega

theorem wid_lt : wid L < 32 := by
  have a : (L 1).val < 16 := (L 1).isLt
  have b : (L 0).val < 2 := (L 0).isLt
  unfold wid; omega

/-- The tile's places of the output are its three pieces. -/
theorem oSet_pieces (f : Buf (Elt F) (oLoc d)) :
    (oLoc d ↦[oSet (wid L)]{fullShare} f : sProp 𝕄)
      = iprop(((oPc L 0).view.loc (VT d L) ↦[(oPc L 0).view.set]{fullShare} f) ∗ ((oPc L 1).view.loc (VT d L) ↦[(oPc L 1).view.set]{fullShare} f)
        ∗ ((oPc L 2).view.loc (VT d L) ↦[(oPc L 2).view.set]{fullShare} f)) := by
  have hw := wid_lt L
  have hdis : ∀ a ∈ (Finset.univ : Finset (Fin 3)), ∀ b ∈ (Finset.univ : Finset (Fin 3)), a ≠ b → Disjoint (oPc L a).view.set (oPc L b).view.set := by
    intro a _ b _ hab
    rw [Finset.disjoint_left]
    intro j ha hb
    have h1 := (oPc_mem L a j).mp ha
    have h2 := (oPc_mem L b j).mp hb
    exact hab (Fin.ext (by omega))
  have hcov : (Finset.univ : Finset (Fin 3)).biUnion (fun q => (oPc L q).view.set) = oSet (wid L) := by
    ext j
    have hj : (j 0).val < 1536 := (j 0).isLt
    simp only [Finset.mem_biUnion, Finset.mem_univ, true_and, oSet, Finset.mem_filter]
    constructor
    · rintro ⟨q, h⟩
      have := (oPc_mem L q j).mp h
      have := q.isLt
      omega
    · intro h
      refine ⟨⟨(j 0).val / 512, by omega⟩, (oPc_mem L _ j).mpr ?_⟩
      show 512 * ((j 0).val / 512) + 16 * wid L ≤ (j 0).val ∧ (j 0).val < 512 * ((j 0).val / 512) + 16 * wid L + 16
      omega
  have h : (oLoc d ↦[oSet (wid L)]{fullShare} f : sProp 𝕄) = bigSep Finset.univ fun q : Fin 3 => oLoc d ↦[(oPc L q).view.set]{fullShare} f := by
    rw [← pointsTo_biUnion Finset.univ (ℓ := oLoc d) (fun q : Fin 3 => (oPc L q).view.set) hdis, hcov]
  exact h.trans (bigSep_W1 (fun q : Fin 3 => (oLoc d ↦[(oPc L q).view.set]{fullShare} f : sProp 𝕄)))

theorem pts_scratch {b : Ref sig .scVector} (f : Buf (Elt F) ((VT d L).loc b)) :
    ((Memref.whole b).view.loc (VT d L) ↦[(Memref.whole b).view.set]{fullShare} f : sProp 𝕄) = (VT d L).loc b ↦{fullShare} f := by
  rw [show (Memref.whole b).view.set = Finset.univ from View.set_whole _]

/-- The tile's body, from what the launch deals it to what it hands back. -/
theorem tile_body (hF : (K (F := F)).Facts) (O : CellTallies nD τ sig (HIx 1)) (W : Waits sig (HIx 1)) (hO : ∀ g, O g none = 0) :
    iprop(levAts (K (F := F)).L (K (F := F)).lev ∗ emp ∗ tileIn m d (L 0).val (L 1).val (m (oLoc d))
        ∗ scopedBufs (VT d L) ∗ scopedSems0 (VT d L) ∗ owes (VT d L) O W)
      ⊢ wp frame (wpE (defs₀ (F := F)) 𝒱₀ (VT d L) none) Set.univ
          (cc0__sc_body L xV (Memref.isWhole_whole _) tV (Memref.isWhole_whole _) oV (Memref.isWhole_whole _)
            b0V (Memref.isWhole_whole _) b1V (Memref.isWhole_whole _) b2V (Memref.isWhole_whole _) b3V (Memref.isWhole_whole _) aV (Memref.isWhole_whole _)
            cc0_scratch5 cc0_scratch6 cc0_scratch7 cc0_scratch8 cc0_scoped0 cc0_scoped1 cc0_scoped2)
          fun _ => iprop(tileIn m d (L 0).val (L 1).val (scVal m d)
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  unfold tileIn
  rw [show 2 * (L 1).val + (L 0).val = wid L from rfl, oSet_pieces, oSet_pieces]
  iintro ⟨#Hlv, -, ⟨Hx, Ht, Ho0, Ho1, Ho2⟩, ⟨⟨%f0, H0⟩, ⟨%f1, H1⟩, ⟨%f2, H2⟩, ⟨%f3, H3⟩, ⟨%f4, H4⟩, Hbufs⟩, ⟨Hcells, Hsems⟩, HO⟩
  ihave Hmw := (show levAts (K (F := F)).L (K (F := F)).lev ⊢ Transfers.MayWaits (VT d L) (default : HIx 1) O from
    (K (F := F)).mayWaits_none (thr := VT d L) hO) $$ Hlv
  ihave Hx := (toks4 (F := F) _ _).1 $$ Hx
  icases Hx with ⟨HxD, Hx0, Hx1, Hx2, Hx3⟩
  ihave Ht := (toks4 (F := F) _ _).1 $$ Ht
  icases Ht with ⟨HtD, Ht0, Ht1, Ht2, Ht3⟩
  ihave H0 := (Entails.of_eq (pts_scratch (F := F) d L _).symm) $$ H0
  ihave H1 := (Entails.of_eq (pts_scratch (F := F) d L _).symm) $$ H1
  ihave H2 := (Entails.of_eq (pts_scratch (F := F) d L _).symm) $$ H2
  ihave H3 := (Entails.of_eq (pts_scratch (F := F) d L _).symm) $$ H3
  ihave H4 := (Entails.of_eq (pts_scratch (F := F) d L _).symm) $$ H4
  iapply (wp_wand_r Idealize.ShloMosaic.frame (wpE (defs₀ (F := F)) 𝒱₀ (VT d L) none) Set.univ)
  isplitl [Hmw Hx0 Hx1 Ht2 Ht3 Ho0 Ho1 Ho2 H0 H1 H2 H3 H4 Hcells HO]
  · iapply (tile_run d L (m (xLoc d)) (m (tLoc d)) (qT (L 0).val (L 1).val) (qT (L 0).val (L 1).val) O W (m (oLoc d)) f0 f1 f2 f3 f4)
    isplitl [Hmw]; · iexact Hmw
    isplitl [Hx0]; · iexact Hx0
    isplitl [Hx1]; · iexact Hx1
    isplitl [Ht2]; · iexact Ht2
    isplitl [Ht3]; · iexact Ht3
    isplitl [Ho0]; · iexact Ho0
    isplitl [Ho1]; · iexact Ho1
    isplitl [Ho2]; · iexact Ho2
    isplitl [H0]; · iexact H0
    isplitl [H1]; · iexact H1
    isplitl [H2]; · iexact H2
    isplitl [H3]; · iexact H3
    isplitl [H4]; · iexact H4
    isplitl [Hcells]; · iexact Hcells
    iexact HO
  iintro %_ ⟨Hx0, Hx1, Ht2, Ht3, Ho0, Ho1, Ho2, ⟨%h0, H0⟩, ⟨%h1, H1⟩, ⟨%h2, H2⟩, ⟨%h3, H3⟩, ⟨%h4, H4⟩, Hcells, %W', %hW', HO⟩
  isplitl [HxD Hx0 Hx1 Hx2 Hx3 HtD Ht0 Ht1 Ht2 Ht3 Ho0 Ho1 Ho2]
  · isplitl [HxD Hx0 Hx1 Hx2 Hx3]
    · iapply (toks4 (F := F) _ _).2
      isplitl [HxD]; · iexact HxD
      isplitl [Hx0]; · iexact Hx0
      isplitl [Hx1]; · iexact Hx1
      isplitl [Hx2]; · iexact Hx2
      iexact Hx3
    isplitl [HtD Ht0 Ht1 Ht2 Ht3]
    · iapply (toks4 (F := F) _ _).2
      isplitl [HtD]; · iexact HtD
      isplitl [Ht0]; · iexact Ht0
      isplitl [Ht1]; · iexact Ht1
      isplitl [Ht2]; · iexact Ht2
      iexact Ht3
    isplitl [Ho0]; · iexact Ho0
    isplitl [Ho1]; · iexact Ho1
    iexact Ho2
  isplitl [H0 H1 H2 H3 H4 Hbufs]
  · isplitl [H0]; · iexists _; iapply (Entails.of_eq (pts_scratch (F := F) d L _)); iexact H0
    isplitl [H1]; · iexists _; iapply (Entails.of_eq (pts_scratch (F := F) d L _)); iexact H1
    isplitl [H2]; · iexists _; iapply (Entails.of_eq (pts_scratch (F := F) d L _)); iexact H2
    isplitl [H3]; · iexists _; iapply (Entails.of_eq (pts_scratch (F := F) d L _)); iexact H3
    isplitl [H4]; · iexists _; iapply (Entails.of_eq (pts_scratch (F := F) d L _)); iexact H4
    iexact Hbufs
  isplitl [Hcells Hsems]
  · isplitl [Hcells]; · iexact Hcells
    iexact Hsems
  iexists W'
  isplitr; swap; · iexact HO
  ipureintro; intro p hp
  exact (hW' p hp).imp_right Or.inl

end Tile

/-! ## The obligation of a tile -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s) xV (Memref.isWhole_whole _) tV (Memref.isWhole_whole _) oV (Memref.isWhole_whole _)
            b0V (Memref.isWhole_whole _) b1V (Memref.isWhole_whole _) b2V (Memref.isWhole_whole _) b3V (Memref.isWhole_whole _) aV (Memref.isWhole_whole _)
            cc0_scratch5 cc0_scratch6 cc0_scratch7 cc0_scratch8 cc0_scoped0 cc0_scoped1 cc0_scoped2) ⟨⟩ c s := rfl

theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) facts O W hO

/-! ## The split among the tiles -/

/-- The first `n` tokens, one per index below `n`. -/
theorem bigSep_range_fin (n : ℕ) (Φ : ℕ → sProp 𝕄) : bigSep (Finset.range n) Φ = bigSep Finset.univ fun i : Fin n => Φ i.val := by
  rw [show Finset.range n = Finset.univ.image (fun i : Fin n => i.val) by
      ext k; simp only [Finset.mem_range, Finset.mem_image, Finset.mem_univ, true_and]
      exact ⟨fun h => ⟨⟨k, h⟩, rfl⟩, fun ⟨i, h⟩ => h ▸ i.isLt⟩,
    SparseCore.bigSep_image_of_injOn (fun a _ b _ h => Fin.ext h)]

/-- A read share as one token for each of `n` takers, and what stays. -/
theorem toksFin {ℓ : Loc nD τ sig} (q : PosShare TreeShare) (n : ℕ) (f : Buf (Elt F) ℓ) :
    (ℓ ↦{q} f : sProp 𝕄) ⊣⊢ iprop((ℓ ↦{Transfers.shareDrop q n} f) ∗ bigSep Finset.univ fun i : Fin n => ℓ ↦{Transfers.shareTokN q i.val} f) := by
  have h := Transfers.pointsTo_toks_range (ℓ := ℓ) (S := Finset.univ) (f := f) (Val := Elt F) (Ix := HIx 1) (Name := ℕ) (U := UU) (Lvl := ℕ) q n
  rw [bigSep_range_fin] at h
  exact h

/-- A SparseCore's places of the output, tile by tile. -/
theorem coreSet_tiles (d : Dev nD) (c : ℕ) (hc : c < 2) (f : Buf (Elt F) (oLoc d)) :
    (oLoc d ↦[coreSet c]{fullShare} f : sProp 𝕄) = bigSep Finset.univ fun i : Fin 16 => oLoc d ↦[oSet (2 * i.val + c)]{fullShare} f := by
  have hdis : ∀ a ∈ (Finset.univ : Finset (Fin 16)), ∀ b ∈ (Finset.univ : Finset (Fin 16)), a ≠ b → Disjoint (oSet (2 * a.val + c)) (oSet (2 * b.val + c)) := by
    intro a _ b _ hab
    rw [Finset.disjoint_left]
    intro j ha hb
    simp only [oSet, Finset.mem_filter, Finset.mem_univ, true_and] at ha hb
    exact hab (Fin.ext (by omega))
  have hcov : (Finset.univ : Finset (Fin 16)).biUnion (fun i => oSet (2 * i.val + c)) = coreSet c := by
    ext j
    have hj : (j 0).val < 1536 := (j 0).isLt
    simp only [Finset.mem_biUnion, Finset.mem_univ, true_and, oSet, coreSet, Finset.mem_filter]
    constructor
    · rintro ⟨i, h⟩; omega
    · intro h
      refine ⟨⟨(j 0).val % 512 / 16 / 2, by omega⟩, ?_⟩
      show (j 0).val % 512 / 16 = 2 * ((j 0).val % 512 / 16 / 2) + c
      omega
  rw [← pointsTo_biUnion Finset.univ (ℓ := oLoc d) (fun i : Fin 16 => oSet (2 * i.val + c)) hdis, hcov]

/-- The output, SparseCore by SparseCore. -/
theorem out_cores (d : Dev nD) (f : Buf (Elt F) (oLoc d)) :
    (oLoc d ↦{fullShare} f : sProp 𝕄) = bigSep Finset.univ fun c : Fin 2 => oLoc d ↦[coreSet c.val]{fullShare} f := by
  have hdis : ∀ a ∈ (Finset.univ : Finset (Fin 2)), ∀ b ∈ (Finset.univ : Finset (Fin 2)), a ≠ b → Disjoint (coreSet a.val) (coreSet b.val) := by
    intro a _ b _ hab
    rw [Finset.disjoint_left]
    intro j ha hb
    simp only [coreSet, Finset.mem_filter, Finset.mem_univ, true_and] at ha hb
    exact hab (Fin.ext (by omega))
  have hcov : (Finset.univ : Finset (Fin 2)).biUnion (fun c => coreSet c.val) = Finset.univ := by
    ext j
    simp only [Finset.mem_biUnion, Finset.mem_univ, true_and, coreSet, Finset.mem_filter, iff_true]
    exact ⟨⟨(j 0).val % 512 / 16 % 2, by omega⟩, rfl⟩
  rw [← pointsTo_biUnion Finset.univ (ℓ := oLoc d) (fun c : Fin 2 => coreSet c.val) hdis, hcov]

theorem vecSplit : (K (F := F)).VecSplit' (P m) 0 := by
  intro d c
  have hc : c.val < 2 := c.isLt
  show coreIn m d c.val (m (oLoc d)) ⊢ |={Set.univ}=> iprop(
      (bigSep Finset.univ fun i : Fin 16 => tileIn m d c.val i.val (m (oLoc d)))
      ∗ ((bigSep Finset.univ fun i : Fin 16 => tileIn m d c.val i.val (scVal m d)) -∗ coreIn m d c.val (scVal m d)))
  unfold coreIn tileIn
  rw [bigSep_sep', bigSep_sep', bigSep_sep', bigSep_sep', coreSet_tiles d _ hc, coreSet_tiles d _ hc]
  iintro ⟨Hx, Ht, Ho⟩
  ihave Hx := (toksFin (F := F) _ 16 _).1 $$ Hx
  icases Hx with ⟨HxD, Hx⟩
  ihave Ht := (toksFin (F := F) _ 16 _).1 $$ Ht
  icases Ht with ⟨HtD, Ht⟩
  imodintro
  isplitl [Hx Ht Ho]
  · isplitl [Hx]; · iexact Hx
    isplitl [Ht]; · iexact Ht
    iexact Ho
  iintro ⟨Hx, Ht, Ho⟩
  isplitl [HxD Hx]
  · iapply (toksFin (F := F) _ 16 _).2
    isplitl [HxD]; · iexact HxD
    iexact Hx
  isplitl [HtD Ht]
  · iapply (toksFin (F := F) _ 16 _).2
    isplitl [HtD]; · iexact HtD
    iexact Ht
  iexact Ho

end Cert.Proof.Run
-- ==== Proof.Region.lean ====
/-
  The TensorCore's share: the pallas_call that sums columns 98304 … 262143, five blocks of sixteen rows by 32768
  columns, three running sums kept in scratch from point to point, its three results stored at the last point.
-/
module

public import proofs.«01_k».proof.Proof.Tasks
public import proofs.«01_k».proof.Proof.Gen.KernelIdeal.Points
public import Idealize.ShloMosaic.Lib.Pipeline.Frame
public import Idealize.ShloMosaic.Lib.Pipeline.Value
public import Idealize.ShloMosaic.Lib.Pipeline.RegionsLoop

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- Both offsets zero. -/
theorem hz2 : (![0, 0] : Fin 2 → Nat) = fun _ => 0 := funext fun a => by fin_cases a <;> rfl

/-- A memref's buffer on core `c`, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- One block's values. -/
abbrev Blk (F : FTy → Type) := Vec F S16x32768 .f32

/-- The three running sums a point finds in scratch: of the losses, of label times loss, and of the labels. -/
structure Sums (F : FTy → Type) where
  l : Blk F
  p : Blk F
  t : Blk F

/-- A point's update of the running sums, from its block of logits and its block of labels. -/
def Sums.step (x t : Blk F) (s : Sums F) : Sums F := ⟨k1_pay8 x t s.l, k1_pay9 x t s.p, k1_pay10 t s.t⟩

/-- The running sums cleared. -/
def Sums.zero : Sums F := ⟨k1_pay4, k1_pay5, k1_pay6⟩

/-- The three results the last point stores. -/
def Sums.out (s : Sums F) : FVec F S3 .f32 := fun j => if (j 0).val = 0 then k1_pay1 s.l else if (j 0).val = 1 then k1_pay2 s.p else k1_pay3 s.t

/-- The condition under which a point clears the running sums. -/
abbrev firstPt (i : grid1.Coords) : Prop :=
  Scalar.cmpi .ne (Scalar.extui (Scalar.cmpi .eq (BitVec.ofNat 32 (i 0).val) 0#32) : BitVec 32) 0#32 = 1#1

/-- A block stored over a whole buffer is what the buffer then holds. -/
theorem writes_whole {M : Memref sig .tc .vmem S16x32768 .f32} (h : M.IsWhole) (f : M.view.ty.Contents (Elt F)) (w : Blk F)
    (inb : ∀ a, (![0, 0] : Fin 2 → Nat) a + S16x32768.size a ≤ S16x32768.size a) (l : List (View.Piece (Elt F) S16x32768 .f32)) :
    M.view.writes (Elt F) f ((⟨Rect.unit (s := S16x32768) ![0, 0] S16x32768.size inb, w⟩ : View.Piece (Elt F) S16x32768 .f32) :: l) = h.unread w := by
  refine h.eq_unread ?_
  rw [View.read_writes_eq_canon _ _ _ fun y => ⟨_, List.mem_cons_self, View.mem_set_unit_zero hz2 inb y⟩]
  exact View.canon_cons_unit_zero hz2 inb w l

/-- A whole buffer read through the whole rectangle is its contents. -/
theorem readAt_whole {M : Memref sig .tc .vmem S16x32768 .f32} (h : M.IsWhole) (w : Blk F)
    (inb : ∀ a, (![0, 0] : Fin 2 → Nat) a + S16x32768.size a ≤ S16x32768.size a) :
    M.view.readAt (Elt F) (Rect.unit (s := S16x32768) ![0, 0] S16x32768.size inb).toLoadRect (h.unread w) = w := by
  rw [View.readAt_eq_ld, h.read_unread]; exact View.ld_unit_zero (S := S16x32768) hz2 inb w

/-- A block stored over a whole buffer and read back is the block. -/
theorem readCov_whole {M : Memref sig .tc .vmem S16x32768 .f32} (w : Blk F)
    (inb : ∀ a, (![0, 0] : Fin 2 → Nat) a + S16x32768.size a ≤ S16x32768.size a) :
    M.view.readCov [(⟨Rect.unit (s := S16x32768) ![0, 0] S16x32768.size inb, w⟩ : View.Piece (Elt F) S16x32768 .f32)]
      (Rect.unit (s := S16x32768) ![0, 0] S16x32768.size inb).toLoadRect = w :=
  View.readCov_unit_zero M.view hz2 inb w

/-- Three single numbers stored at places 0, 1 and 2 are what the buffer of three then holds. -/
theorem writes_three {M : Memref sig .tc .smem S3 .f32} (h : M.IsWhole) (f : M.view.ty.Contents (Elt F)) (l p t : Blk F) :
    M.view.writes (Elt F) f [(⟨Rect.unit (s := S3) ![2] S1.size inb_S3_S1_2, fun _ => k1_pay3 t⟩ : View.Piece (Elt F) S3 .f32),
      ⟨Rect.unit (s := S3) ![1] S1.size inb_S3_S1_1, fun _ => k1_pay2 p⟩, ⟨Rect.unit (s := S3) ![0] S1.size inb_S3_S1_0, fun _ => k1_pay1 l⟩]
      = h.unread (Sums.out ⟨l, p, t⟩) := by
  have m2 (y : S3.Idx) (e : (y 0).val = 2) : y ∈ (Rect.unit (s := S3) ![2] S1.size inb_S3_S1_2).set :=
    Rect.mem_set_unit.mpr fun a => by fin_cases a; exact ⟨e.ge, by show (y 0).val < 2 + 1; omega⟩
  have m1 (y : S3.Idx) (e : (y 0).val = 1) : y ∈ (Rect.unit (s := S3) ![1] S1.size inb_S3_S1_1).set :=
    Rect.mem_set_unit.mpr fun a => by fin_cases a; exact ⟨e.ge, by show (y 0).val < 1 + 1; omega⟩
  have m0 (y : S3.Idx) (e : (y 0).val = 0) : y ∈ (Rect.unit (s := S3) ![0] S1.size inb_S3_S1_0).set :=
    Rect.mem_set_unit.mpr fun a => by fin_cases a; exact ⟨e.ge, by show (y 0).val < 0 + 1; omega⟩
  have hc : ∀ y : S3.Idx, ∃ q ∈ [(⟨Rect.unit (s := S3) ![2] S1.size inb_S3_S1_2, fun _ => k1_pay3 t⟩ : View.Piece (Elt F) S3 .f32),
      ⟨Rect.unit (s := S3) ![1] S1.size inb_S3_S1_1, fun _ => k1_pay2 p⟩, ⟨Rect.unit (s := S3) ![0] S1.size inb_S3_S1_0, fun _ => k1_pay1 l⟩], y ∈ q.1.set := by
    intro y
    have hy : (y 0).val < 3 := (y 0).isLt
    rcases (by omega : (y 0).val = 2 ∨ (y 0).val = 1 ∨ (y 0).val = 0) with e | e | e
    · exact ⟨_, List.mem_cons_self, m2 y e⟩
    · exact ⟨_, List.mem_cons_of_mem _ List.mem_cons_self, m1 y e⟩
    · exact ⟨_, List.mem_cons_of_mem _ (List.mem_cons_of_mem _ List.mem_cons_self), m0 y e⟩
  refine h.eq_unread ?_
  rw [View.read_writes_eq_canon _ _ _ hc]
  funext y
  refine View.canon_apply_of_pieces (Sums.out ⟨l, p, t⟩) _ ?_ y (hc y)
  intro q hq x
  rcases List.mem_cons.mp hq with rfl | hq
  · have hx : (x 0).val < 1 := (x 0).isLt
    have e : ((Rect.unit (s := S3) ![2] S1.size inb_S3_S1_2).emb x 0).val = 2 := by show 2 + 1 * (x 0).val = 2; omega
    unfold Sums.out; rw [e]; rfl
  rcases List.mem_cons.mp hq with rfl | hq
  · have hx : (x 0).val < 1 := (x 0).isLt
    have e : ((Rect.unit (s := S3) ![1] S1.size inb_S3_S1_1).emb x 0).val = 1 := by show 1 + 1 * (x 0).val = 1; omega
    unfold Sums.out; rw [e]; rfl
  obtain rfl := List.mem_singleton.mp hq
  have hx : (x 0).val < 1 := (x 0).isLt
  have e : ((Rect.unit (s := S3) ![0] S1.size inb_S3_S1_0).emb x 0).val = 0 := by show 0 + 1 * (x 0).val = 0; omega
  unfold Sums.out; rw [e]; rfl

section body
variable (c : Dev nD) (i : grid1.Coords)
  (M1 : Memref sig .tc .vmem S16x32768 .f32) (h1 : M1.IsWhole) (M2 : Memref sig .tc .vmem S16x32768 .f32) (h2 : M2.IsWhole)
  (M3 : Memref sig .tc .smem S3 .f32) (h3 : M3.IsWhole)
  (M4 : Memref sig .tc .vmem S16x32768 .f32) (h4 : M4.IsWhole) (M5 : Memref sig .tc .vmem S16x32768 .f32) (h5 : M5.IsWhole)
  (M6 : Memref sig .tc .vmem S16x32768 .f32) (h6 : M6.IsWhole)

/-- A middle point: the running sums updated, the results' buffer not touched. -/
theorem body_mid (hf : ¬ firstPt i) (hl : ¬ k1_cond2 i = 1#1) (x t : Blk F) (s : Sums F) (E : Set ℕ) (Q : PUnit → sProp 𝕄) :
    iprop(pt c M1 (h1.unread x) ∗ pt c M2 (h2.unread t) ∗ pt c M4 (h4.unread s.l) ∗ pt c M5 (h5.unread s.p) ∗ pt c M6 (h6.unread s.t)
        ∗ (iprop(pt c M1 (h1.unread x) ∗ pt c M2 (h2.unread t) ∗ pt c M4 (h4.unread (s.step x t).l) ∗ pt c M5 (h5.unread (s.step x t).p) ∗ pt c M6 (h6.unread (s.step x t).t)) -∗ Q ⟨⟩))
      ⊢ wp frame (wpE (defs₀ (F := F)) Variants.none c none) E (cc1__tc_body i M1 h1 M2 h2 M3 h3 M4 h4 M5 h5 M6 h6) Q := by
  iintro ⟨H1, H2, H4, H5, H6, Hk⟩
  rw [cc1__tc_body_eq_skeleton]; unfold cc1__tc_body_skel
  rw [k1_part1_eq_skeleton]; unfold k1_part1_skel
  simp only [dif_neg hf, dif_neg hl]
  sl_exec
  sl_step
  iapply Hk
  rw [writes_whole h4, writes_whole h5, writes_whole h6]
  rw [readAt_whole h1, readAt_whole h2, readAt_whole h4, readAt_whole h5, readAt_whole h6]
  isplitl [H1]; · iexact H1
  isplitl [H2]; · iexact H2
  isplitl [H4]; · iexact H4
  isplitl [H5]; · iexact H5
  iexact H6

/-- The first point: the running sums cleared, then updated, whatever the scratch held. -/
theorem body_first (hf : firstPt i) (hl : ¬ k1_cond2 i = 1#1) (x t : Blk F) (f4 : Bf (F := F) c M4) (f5 : Bf (F := F) c M5) (f6 : Bf (F := F) c M6)
    (E : Set ℕ) (Q : PUnit → sProp 𝕄) :
    iprop(pt c M1 (h1.unread x) ∗ pt c M2 (h2.unread t) ∗ pt c M4 f4 ∗ pt c M5 f5 ∗ pt c M6 f6
        ∗ (iprop(pt c M1 (h1.unread x) ∗ pt c M2 (h2.unread t) ∗ pt c M4 (h4.unread (Sums.zero.step x t).l) ∗ pt c M5 (h5.unread (Sums.zero.step x t).p) ∗ pt c M6 (h6.unread (Sums.zero.step x t).t)) -∗ Q ⟨⟩))
      ⊢ wp frame (wpE (defs₀ (F := F)) Variants.none c none) E (cc1__tc_body i M1 h1 M2 h2 M3 h3 M4 h4 M5 h5 M6 h6) Q := by
  iintro ⟨H1, H2, H4, H5, H6, Hk⟩
  rw [cc1__tc_body_eq_skeleton]; unfold cc1__tc_body_skel
  rw [k1_part1_eq_skeleton]; unfold k1_part1_skel
  simp only [dif_pos hf, dif_neg hl]
  sl_exec
  sl_step
  iapply Hk
  sl_unfold_words
  rw [writes_whole h4, writes_whole h5, writes_whole h6]
  rw [readAt_whole h1, readAt_whole h2]
  rw [readCov_whole, readCov_whole, readCov_whole]
  isplitl [H1]; · iexact H1
  isplitl [H2]; · iexact H2
  isplitl [H4]; · iexact H4
  isplitl [H5]; · iexact H5
  iexact H6

/-- The last point: the running sums updated, then each summed whole into the results' buffer. -/
theorem body_last (hf : ¬ firstPt i) (hl : k1_cond2 i = 1#1) (x t : Blk F) (s : Sums F) (f3 : Bf (F := F) c M3) (E : Set ℕ) (Q : PUnit → sProp 𝕄) :
    iprop(pt c M1 (h1.unread x) ∗ pt c M2 (h2.unread t) ∗ pt c M3 f3 ∗ pt c M4 (h4.unread s.l) ∗ pt c M5 (h5.unread s.p) ∗ pt c M6 (h6.unread s.t)
        ∗ (iprop(pt c M1 (h1.unread x) ∗ pt c M2 (h2.unread t) ∗ pt c M3 (h3.unread (s.step x t).out) ∗ pt c M4 (h4.unread (s.step x t).l) ∗ pt c M5 (h5.unread (s.step x t).p) ∗ pt c M6 (h6.unread (s.step x t).t)) -∗ Q ⟨⟩))
      ⊢ wp frame (wpE (defs₀ (F := F)) Variants.none c none) E (cc1__tc_body i M1 h1 M2 h2 M3 h3 M4 h4 M5 h5 M6 h6) Q := by
  iintro ⟨H1, H2, H3, H4, H5, H6, Hk⟩
  rw [cc1__tc_body_eq_skeleton]; unfold cc1__tc_body_skel
  rw [k1_part1_eq_skeleton]; unfold k1_part1_skel
  simp only [dif_neg hf, dif_pos hl]
  sl_exec
  sl_step
  iapply Hk
  sl_unfold_words
  rw [writes_whole h4, writes_whole h5, writes_whole h6]
  rw [readAt_whole h1, readAt_whole h2, readAt_whole h4, readAt_whole h5, readAt_whole h6]
  rw [readCov_whole, readCov_whole, readCov_whole]
  rw [writes_three h3 f3 (k1_pay8 x t s.l) (k1_pay9 x t s.p) (k1_pay10 t s.t)]
  isplitl [H1]; · iexact H1
  isplitl [H2]; · iexact H2
  isplitl [H3]; · iexact H3
  isplitl [H4]; · iexact H4
  isplitl [H5]; · iexact H5
  iexact H6

end body

/-! ## The proof data, at an entry valuation -/

section region
variable (V : (c : Dev nD) → (b : Ref sig .tc) → Buf (Elt F) ((c : Thread nD τ).loc b))

/-- The block of logits, and of labels, that point `t` is given. -/
abbrev xBlk (c : Dev nD) (t : Fin cfg1.N) : Blk F := ((cfg1.win 0).blk t).view.read (Elt F) (V c main_arg0)
abbrev tBlk (c : Dev nD) (t : Fin cfg1.N) : Blk F := ((cfg1.win 1).blk t).view.read (Elt F) (V c main_arg1)

/-- The running sums after `n` points. -/
def sums (c : Dev nD) : ℕ → Sums F
  | 0 => Sums.zero
  | n + 1 => if h : n < cfg1.N then (sums c n).step (xBlk V c ⟨n, h⟩) (tBlk V c ⟨n, h⟩) else sums c n

theorem sums_succ (c : Dev nD) (t : Fin cfg1.N) : sums V c (t.val + 1) = (sums V c t.val).step (xBlk V c t) (tBlk V c t) := by
  rw [sums, dif_pos t.isLt]

/-- The three scratch buffers. -/
abbrev M4 : Memref sig .tc .vmem S16x32768 .f32 := Memref.whole cc1_scratch0
abbrev M5 : Memref sig .tc .vmem S16x32768 .f32 := Memref.whole cc1_scratch1
abbrev M6 : Memref sig .tc .vmem S16x32768 .f32 := Memref.whole cc1_scratch2
theorem w4 : M4.IsWhole := Memref.isWhole_whole _
theorem w5 : M5.IsWhole := Memref.isWhole_whole _
theorem w6 : M6.IsWhole := Memref.isWhole_whole _

/-- The invariant between points: the scratch at anything before the first, at the running sums after. -/
def Φc (c : Dev nD) (n : ℕ) : sProp 𝕄 :=
  if n = 0 then Pipeline.scopedRest (Ix := HIx 1) (Name := ℕ) (U := UU) (Lvl := ℕ) (Val := Elt F) spec1 c
  else iprop(pt c M4 (w4.unread (sums V c n).l) ∗ pt c M5 (w5.unread (sums V c n).p) ∗ pt c M6 (w6.unread (sums V c n).t))

/-- The region's proof data: the three arrays at the entry valuation, the input blocks left as fetched, the results at
    the running sums' totals, nothing owed, every wait recorded at a level at most `b`. -/
def dat (b : ℕ) (c : Dev nD) : Dat τ (Elt F) (HIx 1) ℕ UU ℕ cfg1 c where
  A w := V c (Pipeline.arrRef spec1 w)
  after w t := match w with
    | ⟨0, _⟩ => xBlk V c t
    | ⟨1, _⟩ => tBlk V c t
    | ⟨2, _⟩ => (sums V c (t.val + 1)).out
  Φ t := Φc V c t.val
  q _ := fullShare
  owed _ := 0
  recorded _ := {p | (K (F := F)).lev ((c : Thread nD τ), p.1) p.2 ≤ b}

/-- The data of the program's one pipeline. -/
def pdats (b : ℕ) (adm : (p : Fin 1) → (pcfgs (F := F) p).Adm) : (p : Fin 1) → (c : Dev nD) → Dat τ (Elt F) (HIx 1) ℕ UU ℕ (Pipeline.pin (pcfgs (F := F)) adm p) c
  | ⟨0, _⟩ => fun c => dat V b c

theorem before_0 (b : ℕ) (c : Dev nD) (t : Fin cfg1.N) (d : (cfg1.win 0).block.Idx → Elt F (cfg1.win 0).elt) : (dat V b c).before 0 t d = xBlk V c t := by
  unfold Dat.before; rw [if_pos (fetch1_0 t)]; rfl
theorem before_1 (b : ℕ) (c : Dev nD) (t : Fin cfg1.N) (d : (cfg1.win 1).block.Idx → Elt F (cfg1.win 1).elt) : (dat V b c).before 1 t d = tBlk V c t := by
  unfold Dat.before; rw [if_pos (fetch1_1 t)]; rfl

theorem first_iff : ∀ t : Fin cfg1.N, firstPt (grid1.coords t) ↔ t.val = 0 := (by decide +kernel : ∀ t : Fin grid1.N, firstPt (grid1.coords t) ↔ t.val = 0)
theorem last_iff : ∀ t : Fin cfg1.N, k1_cond2 (grid1.coords t) = 1#1 ↔ t.val = 4 := (by decide +kernel : ∀ t : Fin grid1.N, k1_cond2 (grid1.coords t) = 1#1 ↔ t.val = 4)

/-- A whole buffer held at contents `X` through a memref is the buffer held at `X` laid out in it. -/
theorem owns_pt (c : Dev nD) {sp : Space} {S : Shape} {e : EltTy} {M : Memref sig .tc sp S e} (h : M.IsWhole) (X : S.Idx → Elt F e) :
    (owns (c : Thread nD τ) M fullShare X : sProp 𝕄) = pt c M (h.unread X) := by
  unfold owns
  rw [h.set_eq_univ]
  have h1 : (iprop(∃ f, ⌜M.view.read (Elt F) f = X⌝ ∗ (M.view.loc (c : Thread nD τ) ↦{fullShare} f)) : sProp 𝕄) ⊢ pt c M (h.unread X) := by
    iintro ⟨%f, %hf, H⟩
    rw [h.eq_unread hf]
    iexact H
  have h2 : (pt c M (h.unread X) : sProp 𝕄) ⊢ iprop(∃ f, ⌜M.view.read (Elt F) f = X⌝ ∗ (M.view.loc (c : Thread nD τ) ↦{fullShare} f)) := by
    iintro H
    iexists h.unread X
    isplitr; · ipureintro; exact h.read_unread X
    iexact H
  exact BI.Entails.antisymm h1 h2

/-- The body's obligation at every point. -/
theorem body_obligation (b : ℕ) (c : Dev nD) : BodyObligation (dat V b c) (defs₀ (F := F)) 𝒱₀ (none : HIx 1) Set.univ := fun t => by
  rw [bigSep_W1, bigSep_W1]
  rw [show (dat V b c).Φ t.castSucc = Φc V c t.val from rfl, show (dat V b c).Φ t.succ = Φc V c (t.val + 1) from rfl,
    show (dat V b c).owesAt none t.succ = (dat V b c).owesAt none t.castSucc from rfl]
  have hb : (defs₀ (F := F)) Proc.tc cfg1.body (cfg1.bodyArgs t (cfg1.slots t)) = bodyAt1 (F := F) t := rfl
  rw [hb]
  have h0 : (owns (c : Thread nD τ) (stage1_0 (cfg1.slots t 0)) fullShare ((dat V b c).after 0 t) : sProp 𝕄)
      = pt c (st1_0 t) ((hstage1_0 ((cfg1.slots t 0).cast nbuf1_0)).unread (xBlk V c t)) := owns_pt c _ _
  have h1 : (owns (c : Thread nD τ) (stage1_1 (cfg1.slots t 1)) fullShare ((dat V b c).after 1 t) : sProp 𝕄)
      = pt c (st1_1 t) ((hstage1_1 ((cfg1.slots t 1).cast nbuf1_1)).unread (tBlk V c t)) := owns_pt c _ _
  have h2 : (owns (c : Thread nD τ) (stage1_2 (cfg1.slots t 2)) fullShare ((dat V b c).after 2 t) : sProp 𝕄)
      = pt c (st1_2 t) ((hstage1_2 ((cfg1.slots t 2).cast nbuf1_2)).unread (sums V c (t.val + 1)).out) := owns_pt c _ _
  have hs : ∀ n, n ≠ 0 → Φc V c n = iprop(pt c M4 (w4.unread (sums V c n).l) ∗ pt c M5 (w5.unread (sums V c n).p) ∗ pt c M6 (w6.unread (sums V c n).t)) :=
    fun n h => by unfold Φc; rw [if_neg h]
  have hin0 : ∀ d, (owns (c : Thread nD τ) (stage1_0 (cfg1.slots t 0)) fullShare ((dat V b c).before 0 t d) : sProp 𝕄)
      = pt c (st1_0 t) ((hstage1_0 ((cfg1.slots t 0).cast nbuf1_0)).unread (xBlk V c t)) := fun d => by rw [before_0]; exact owns_pt c _ _
  have hin1 : ∀ d, (owns (c : Thread nD τ) (stage1_1 (cfg1.slots t 1)) fullShare ((dat V b c).before 1 t d) : sProp 𝕄)
      = pt c (st1_1 t) ((hstage1_1 ((cfg1.slots t 1).cast nbuf1_1)).unread (tBlk V c t)) := fun d => by rw [before_1]; exact owns_pt c _ _
  have hin2 : ∀ d, (owns (c : Thread nD τ) (stage1_2 (cfg1.slots t 2)) fullShare ((dat V b c).before 2 t d) : sProp 𝕄)
      = pt c (st1_2 t) ((hstage1_2 ((cfg1.slots t 2).cast nbuf1_2)).unread ((dat V b c).before 2 t d)) := fun d => owns_pt c _ _
  have hN : cfg1.N = 5 := N_1
  have ht := t.isLt
  dsimp only
  rw [h0, h1, hs _ (Nat.succ_ne_zero _), sums_succ]
  simp only [hin0, hin1]
  by_cases h4 : t.val = 4
  · have hl := (last_iff t).mpr h4
    have hf : ¬ firstPt (grid1.coords t) := fun h => by have := (first_iff t).mp h; omega
    rw [show idle1 2 (grid1.coords t) = false from by show (!(k1_cond2 (grid1.coords t) == 1#1)) = false; rw [hl]; rfl]
    dsimp only
    rw [h2, sums_succ, hs _ (by omega)]
    iintro ⟨⟨H4, H5, H6⟩, HO, ⟨%d0, H1⟩, ⟨%d1, H2⟩, ⟨%d2, H3⟩⟩
    ihave H3 := (Entails.of_eq (hin2 d2)) $$ H3
    iapply (body_last c (grid1.coords t) _ _ _ _ _ _ M4 w4 M5 w5 M6 w6 hf hl (xBlk V c t) (tBlk V c t) (sums V c t.val))
    isplitl [H1]; · iexact H1
    isplitl [H2]; · iexact H2
    isplitl [H3]; · iexact H3
    isplitl [H4]; · iexact H4
    isplitl [H5]; · iexact H5
    isplitl [H6]; · iexact H6
    iintro ⟨H1, H2, H3, H4, H5, H6⟩
    isplitl [H4 H5 H6]
    · isplitl [H4]; · iexact H4
      isplitl [H5]; · iexact H5
      iexact H6
    isplitl [HO]; · iexact HO
    isplitl [H1]; · iexact H1
    isplitl [H2]; · iexact H2
    iexact H3
  have hl : ¬ k1_cond2 (grid1.coords t) = 1#1 := fun h => h4 ((last_iff t).mp h)
  have hfl : (win1 2).flush t = false := by
    refine Bool.eq_false_iff.mpr fun h => h4 ?_
    have h' := (flush1_2 t).mp h
    omega
  rw [show idle1 2 (grid1.coords t) = true from by
    show (!(k1_cond2 (grid1.coords t) == 1#1)) = true
    rw [beq_eq_false_iff_ne.mpr hl]; rfl, hfl]
  dsimp only
  by_cases hz : t.val = 0
  · have hf := (first_iff t).mpr hz
    rw [show Φc V c t.val = Pipeline.scopedRest spec1 c from by unfold Φc; rw [if_pos hz], scopedRest1_eq, hz]
    iintro ⟨⟨⟨%f4, H4⟩, ⟨%f5, H5⟩, ⟨%f6, H6⟩⟩, HO, ⟨%d0, H1⟩, ⟨%d1, H2⟩, ⟨%d2, H3⟩⟩
    iapply (body_first c (grid1.coords t) _ _ _ _ _ (hstage1_2 ((cfg1.slots t 2).cast nbuf1_2)) M4 w4 M5 w5 M6 w6 hf hl (xBlk V c t) (tBlk V c t) f4 f5 f6)
    isplitl [H1]; · iexact H1
    isplitl [H2]; · iexact H2
    isplitl [H4]; · iexact H4
    isplitl [H5]; · iexact H5
    isplitl [H6]; · iexact H6
    iintro ⟨H1, H2, H4, H5, H6⟩
    isplitl [H4 H5 H6]
    · isplitl [H4]; · iexact H4
      isplitl [H5]; · iexact H5
      iexact H6
    isplitl [HO]; · iexact HO
    isplitl [H1]; · iexact H1
    isplitl [H2]; · iexact H2
    iexists d2
    iexact H3
  have hf : ¬ firstPt (grid1.coords t) := fun h => hz ((first_iff t).mp h)
  rw [hs _ hz]
  iintro ⟨⟨H4, H5, H6⟩, HO, ⟨%d0, H1⟩, ⟨%d1, H2⟩, ⟨%d2, H3⟩⟩
  iapply (body_mid c (grid1.coords t) _ _ _ _ _ (hstage1_2 ((cfg1.slots t 2).cast nbuf1_2)) M4 w4 M5 w5 M6 w6 hf hl (xBlk V c t) (tBlk V c t) (sums V c t.val))
  isplitl [H1]; · iexact H1
  isplitl [H2]; · iexact H2
  isplitl [H4]; · iexact H4
  isplitl [H5]; · iexact H5
  isplitl [H6]; · iexact H6
  iintro ⟨H1, H2, H4, H5, H6⟩
  isplitl [H4 H5 H6]
  · isplitl [H4]; · iexact H4
    isplitl [H5]; · iexact H5
    iexact H6
  isplitl [HO]; · iexact HO
  isplitl [H1]; · iexact H1
  isplitl [H2]; · iexact H2
  iexists d2
  iexact H3

/-- What the region leaves in its result: the running sums of all five points, each summed whole. -/
abbrev tcOut (c : Dev nD) : Buf (Elt F) ((c : Thread nD τ).loc main_v2) := (sums V c 5).out

/-- Its one write-back, at the last point, writes it. -/
theorem flushed_eq (b : ℕ) (c : Dev nD) (t : Fin cfg1.N) (hf : (cfg1.win 2).flush t = true) :
    (dat V b c).flushed 2 t = ((cfg1.win 2).blk t).view.read (Elt F) (tcOut V c) := by
  have h4 : t.val = 4 := by have := (flush1_2 t).mp hf; have hN : cfg1.N = 5 := N_1; have := t.isLt; omega
  obtain rfl : t = t1_4 := Fin.ext h4
  show (cfg1.win 2).cut (grid1.coords t1_4) ((dat V b c).after 2 t1_4) = _
  have hz' : (fun a => win1_2.index t1_4 a * main_v2.ty.shape.size a) = fun _ => 0 := funext fun a => by fin_cases a; decide
  exact (Memref.read_access_unit_zero (Elt F) main_v2 hz' (fun a => by rw [congrFun hz' a]; simp) (tcOut V c)).symm

theorem final_o (b : ℕ) (c : Dev nD) : (dat V b c).arrAt 2 cfg1.N = tcOut V c :=
  (dat V b c).arrAt_eq_of_cover 2 (tcOut V c) (flushed_eq V b c) fun i =>
    ⟨t1_4, (flush1_2 t1_4).mpr rfl, by
      show i ∈ ((View.whole main_v2).slice (win1_2.rect t1_4)).set
      rw [View.set_slice_whole, Rect.mem_set_unit]
      intro a
      have h0 : (i 0 : Nat) < 3 := (i 0).isLt
      match a with
      | ⟨0, _⟩ => show win1_2.index t1_4 0 * win1_2.size 0 ≤ (i 0 : Nat) ∧ (i 0 : Nat) < win1_2.index t1_4 0 * win1_2.size 0 + win1_2.xsize (grid1.coords t1_4) 0
                  rw [show win1_2.index t1_4 0 * win1_2.size 0 = 0 from by decide +kernel, show win1_2.xsize (grid1.coords t1_4) 0 = 3 from by decide +kernel]; omega⟩

variable (Vp : (c : Dev nD) → (b : Ref sig .tc) → Buf (Elt F) ((c : Thread nD τ).loc b))

set_option backward.isDefEq.respectTransparency.types false in
/-- The region, over every unscoped buffer at `V` and the TensorCore owing nothing: left with the result at the totals
    and every other buffer as it was, its recorded waits still at levels at most `b`. -/
def reg (b : ℕ) (adm : (p : Fin 1) → (pcfgs (F := F) p).Adm) (hVp_out : ∀ c, Vp c main_v2 = tcOut V c)
    (hVp_ne : ∀ c (r : Ref sig .tc), r ≠ main_v2 → Vp c r = V c r) :
    Pipeline.RegionSeg (pcfgs (F := F)) adm (pdats V b adm) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V b c).loose
  hwaits := Pipeline.hwaits_of_owed_zero _ _ _ _ (K (F := F)).L (K (F := F)).lev 0 fun _ _ => rfl
  pre c := iprop(unscopedBufs c (V c) ∗ ∃ W, ⌜(K (F := F)).WBelow (c : Thread nD τ) W b⌝ ∗ owes (c : Thread nD τ) (0 : CellTallies nD τ sig (HIx 1)) W)
  post c := iprop(unscopedBufs c (Vp c) ∗ ∃ W, ⌜(K (F := F)).WBelow (c : Thread nD τ) W b⌝ ∗ owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V b adm) launch1.win launch1.arr_whole c
      ((pdats V b adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V b adm 0 c).Φ 0 = Pipeline.scopedRest spec1 c from show Φc V c 0 = _ by unfold Φc; rw [if_pos rfl]]
    iintro ⟨-, -, Hr⟩; iexact Hr
  hout c := by
    rw [Pipeline.ownSems0_none, show (pdats V b adm 0 c).Φ (Fin.last _) = Φc V c 5 from congrArg (Φc V c) N_1, scopedRest1_eq]
    unfold Φc
    rw [if_neg (by decide : ¬ (5 : ℕ) = 0)]
    iintro ⟨H4, H5, H6⟩
    isplitr; · iempintro
    isplitr; · iempintro
    isplitl [H4]; · iexists _; iexact H4
    isplitl [H5]; · iexists _; iexact H5
    iexists _; iexact H6
  hexit c := by
    have hjoin := Pipeline.unscopedBufs_of_arrays (p := 0) (pcfgs (F := F)) adm (Ix := HIx 1) (Name := ℕ) (U := UU) (Lvl := ℕ) launch1.win launch1.arr_whole c
      (pdats V b adm) ((pdats V b adm 0 c).share_full fun _ => rfl) (V c) (Vp c) ((pdats V b adm 0 c).arrAt · cfg1.N)
      (fun w => by
        fin_cases w
        · exact ((pdats V b adm 0 c).arrAt_in 0 rfl _).trans (hVp_ne c main_arg0 (by decide)).symm
        · exact ((pdats V b adm 0 c).arrAt_in 1 rfl _).trans (hVp_ne c main_arg1 (by decide)).symm
        · exact (final_o V b c).trans (hVp_out c).symm)
      (fun r hr => hVp_ne c r fun h => hr (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, e⟩
      · exact h
      · rw [show p.2 = none from congrArg Prod.snd e]; exact Nat.zero_le _
    iexact HO

end region

end Cert.Proof.Run
-- ==== Proof.Main.lean ====
/-
  The whole program: the SparseCore call, the reshape of what it leaves, the TensorCore pallas_call and the host's
  combination of the two parts, run in order on the TensorCore; and the program's run, with the result as a function of the
  two arguments and the arguments unchanged.
-/
module

public import proofs.«01_k».proof.Proof.Region
public import Idealize.ShloMosaic.Lib.SparseCore.Quiescent
public import Idealize.ShloMosaic.Lib.StableHlo.Run

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq)
open Idealize.ShloMosaic.Pipeline (ucRefs)

variable {F : FTy → Type} [FloatOps F]

local notation "𝕄" => MT nD τ sig (HIx 1) (Elt F) ℕ UU ℕ

/-! ## @main in four pieces -/

/-- The reshape of the SparseCore call's result. -/
abbrev preOps : List (HloOp τ sig (Elt F)) :=
  [ StableHlo.reshape main_v0 main_v1 (rfl : (.f32 : EltTy) = .f32) shapeCasts_S1536_S3x512 ]

/-- The host's operations after the pallas_call. -/
abbrev postOps : List (HloOp τ sig (Elt F)) :=
  [ StableHlo.nullary main_cst (constant S_ .f32 0x00000000#32),
    StableHlo.binary main_v1 main_cst main_v3 ((fun x v => Host.reduceAdd x v reducesTo_S3x512_S3_d1 h_S_) : (⟨S3x512, .f32⟩ : BufTy).Contents (Elt F) → (⟨S_, .f32⟩ : BufTy).Contents (Elt F) → (⟨S3, .f32⟩ : BufTy).Contents (Elt F)),
    StableHlo.binary main_v3 main_v2 main_v4 (addf : (⟨S3, .f32⟩ : BufTy).Contents (Elt F) → (⟨S3, .f32⟩ : BufTy).Contents (Elt F) → (⟨S3, .f32⟩ : BufTy).Contents (Elt F)),
    StableHlo.unary main_v4 main_v5 ((extractStridedSlice S1 ![0] · slices_S3_S1_0) : (⟨S3, .f32⟩ : BufTy).Contents (Elt F) → (⟨S1, .f32⟩ : BufTy).Contents (Elt F)),
    StableHlo.reshape main_v5 main_v6 (rfl : (.f32 : EltTy) = .f32) shapeCasts_S1_S_,
    StableHlo.unary main_v4 main_v7 ((extractStridedSlice S1 ![1] · slices_S3_S1_1) : (⟨S3, .f32⟩ : BufTy).Contents (Elt F) → (⟨S1, .f32⟩ : BufTy).Contents (Elt F)),
    StableHlo.reshape main_v7 main_v8 (rfl : (.f32 : EltTy) = .f32) shapeCasts_S1_S_,
    StableHlo.unary main_v4 main_v9 ((extractStridedSlice S1 ![2] · slices_S3_S1_2) : (⟨S3, .f32⟩ : BufTy).Contents (Elt F) → (⟨S1, .f32⟩ : BufTy).Contents (Elt F)),
    StableHlo.reshape main_v9 main_v10 (rfl : (.f32 : EltTy) = .f32) shapeCasts_S1_S_,
    StableHlo.nullary main_cst_0 (constant S_ .f32 0x4A800000#32),
    StableHlo.binary main_cst_0 main_v10 main_v11 (subf : (⟨S_, .f32⟩ : BufTy).Contents (Elt F) → (⟨S_, .f32⟩ : BufTy).Contents (Elt F) → (⟨S_, .f32⟩ : BufTy).Contents (Elt F)),
    StableHlo.binary main_v6 main_v8 main_v12 (subf : (⟨S_, .f32⟩ : BufTy).Contents (Elt F) → (⟨S_, .f32⟩ : BufTy).Contents (Elt F) → (⟨S_, .f32⟩ : BufTy).Contents (Elt F)),
    StableHlo.nullary main_cst_1 (constant S_ .f32 0x00000000#32),
    StableHlo.binary main_v10 main_cst_1 main_v13 (cmpf .ogt : (⟨S_, .f32⟩ : BufTy).Contents (Elt F) → (⟨S_, .f32⟩ : BufTy).Contents (Elt F) → (⟨S_, .i1⟩ : BufTy).Contents (Elt F)),
    StableHlo.nullary main_cst_2 (constant S_ .f32 0x3F800000#32),
    StableHlo.binary main_v10 main_cst_2 main_v14 (maximumf : (⟨S_, .f32⟩ : BufTy).Contents (Elt F) → (⟨S_, .f32⟩ : BufTy).Contents (Elt F) → (⟨S_, .f32⟩ : BufTy).Contents (Elt F)),
    StableHlo.binary main_v8 main_v14 main_v15 (Host.divf : (⟨S_, .f32⟩ : BufTy).Contents (Elt F) → (⟨S_, .f32⟩ : BufTy).Contents (Elt F) → (⟨S_, .f32⟩ : BufTy).Contents (Elt F)),
    StableHlo.nullary main_cst_3 (constant S_ .f32 0x00000000#32),
    StableHlo.TRef.unary (StableHlo.TRef.of (T := ⟨S_, .f32⟩) main_cst_3) (StableHlo.TRef.of (T := ⟨S_, .f32⟩) main_call0_v0) id,
    StableHlo.TRef.ternary (StableHlo.TRef.of (T := ⟨S_, .i1⟩) main_v13) (StableHlo.TRef.of (T := ⟨S_, .f32⟩) main_v15) (StableHlo.TRef.of (T := ⟨S_, .f32⟩) main_call0_v0) (StableHlo.TRef.of (T := ⟨S_, .f32⟩) main_v16) select,
    StableHlo.nullary main_cst_4 (constant S_ .f32 0x3F000000#32),
    StableHlo.binary main_v16 main_cst_4 main_v17 (mulf : (⟨S_, .f32⟩ : BufTy).Contents (Elt F) → (⟨S_, .f32⟩ : BufTy).Contents (Elt F) → (⟨S_, .f32⟩ : BufTy).Contents (Elt F)),
    StableHlo.nullary main_cst_5 (constant S_ .f32 0x00000000#32),
    StableHlo.binary main_v11 main_cst_5 main_v18 (cmpf .ogt : (⟨S_, .f32⟩ : BufTy).Contents (Elt F) → (⟨S_, .f32⟩ : BufTy).Contents (Elt F) → (⟨S_, .i1⟩ : BufTy).Contents (Elt F)),
    StableHlo.nullary main_cst_6 (constant S_ .f32 0x3F800000#32),
    StableHlo.binary main_v11 main_cst_6 main_v19 (maximumf : (⟨S_, .f32⟩ : BufTy).Contents (Elt F) → (⟨S_, .f32⟩ : BufTy).Contents (Elt F) → (⟨S_, .f32⟩ : BufTy).Contents (Elt F)),
    StableHlo.binary main_v12 main_v19 main_v20 (Host.divf : (⟨S_, .f32⟩ : BufTy).Contents (Elt F) → (⟨S_, .f32⟩ : BufTy).Contents (Elt F) → (⟨S_, .f32⟩ : BufTy).Contents (Elt F)),
    StableHlo.nullary main_cst_7 (constant S_ .f32 0x00000000#32),
    StableHlo.TRef.unary (StableHlo.TRef.of (T := ⟨S_, .f32⟩) main_cst_7) (StableHlo.TRef.of (T := ⟨S_, .f32⟩) main_call1_v0) id,
    StableHlo.TRef.ternary (StableHlo.TRef.of (T := ⟨S_, .i1⟩) main_v18) (StableHlo.TRef.of (T := ⟨S_, .f32⟩) main_v20) (StableHlo.TRef.of (T := ⟨S_, .f32⟩) main_call1_v0) (StableHlo.TRef.of (T := ⟨S_, .f32⟩) main_v21) select,
    StableHlo.nullary main_cst_8 (constant S_ .f32 0x3F000000#32),
    StableHlo.binary main_v21 main_cst_8 main_v22 (mulf : (⟨S_, .f32⟩ : BufTy).Contents (Elt F) → (⟨S_, .f32⟩ : BufTy).Contents (Elt F) → (⟨S_, .f32⟩ : BufTy).Contents (Elt F)),
    StableHlo.binary main_v17 main_v22 main_v23 (addf : (⟨S_, .f32⟩ : BufTy).Contents (Elt F) → (⟨S_, .f32⟩ : BufTy).Contents (Elt F) → (⟨S_, .f32⟩ : BufTy).Contents (Elt F)) ]

theorem preOps_sub : (preOps : List (HloOp τ sig (Elt F))).Forall fun op => op.bufs ⊆ StableHlo.tcRefs τ sig :=
  StableHlo.reshape_bufs_sub ..
set_option maxRecDepth 8192 in
theorem postOps_sub : (postOps : List (HloOp τ sig (Elt F))).Forall fun op => op.bufs ⊆ StableHlo.tcRefs τ sig :=
  ⟨StableHlo.nullary_bufs_sub .., StableHlo.binary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.nullary_bufs_sub .., StableHlo.binary_bufs_sub .., StableHlo.binary_bufs_sub ..⟩

/-- The buffers that the host's operations write, in order. -/
abbrev postW : List (Ref sig .tc) :=
  [main_cst, main_v3, main_v4, main_v5, main_v6, main_v7, main_v8, main_v9, main_v10, main_cst_0, main_v11, main_v12, main_cst_1, main_v13, main_cst_2, main_v14, main_v15, main_cst_3, main_call0_v0, main_v16, main_cst_4, main_v17, main_cst_5, main_v18, main_cst_6, main_v19, main_v20, main_cst_7, main_call1_v0, main_v21, main_cst_8, main_v22, main_v23]
theorem postOps_fresh : ∀ op ∈ (postOps : List (HloOp τ sig (Elt F))), op.fresh = ∅ :=
  List.forall_iff_forall_mem.mp (StableHlo.forall_fresh_of_map rfl)
set_option maxRecDepth 8192 in
set_option maxHeartbeats 4000000 in
theorem main_eq (d : Dev nD) : main (F := F) d
    = (K (F := F)).run d 0 >>= fun _ => seq preOps >>= fun _ =>
        SparseCore.liftProg (.op (.customCall (Pipeline.entry 0) ()) fun x => .ret x) >>= fun _ => seq postOps >>= fun _ => pure ⟨⟩ := rfl

variable (m : (ℓ : Loc nD τ sig) → Buf (Elt F) ℓ) (ρ : Dev nD → PrngReg)

/-! ## What the buffers hold between the pieces -/

abbrev dr (b : Ref sig .tc) : DevRef τ sig := Proc.devRef (τ := τ) .tc b

/-- After the SparseCore call; after the reshape; after the pallas_call; at the end. -/
def V1 (d : Dev nD) : Valuation τ sig (Elt F) := Function.update (fun b => m (d, b)) (dr main_v0) (scVal m d)
def V2 (d : Dev nD) : Valuation τ sig (Elt F) := after preOps (V1 m d)
def V3 (d : Dev nD) : Valuation τ sig (Elt F) := Function.update (V2 m d) (dr main_v2) (tcOut (fun c b => V2 m c (dr b)) d)
def Vend (d : Dev nD) : Valuation τ sig (Elt F) := after postOps (V3 m d)

/-- The buffers the SparseCore call touches, and those the claim reads. -/
def scRefs : Finset (DevRef τ sig) := {dr main_arg0, dr main_arg1, dr main_v0}
def finRefs : Finset (DevRef τ sig) := {dr main_arg0, dr main_arg1, dr main_v23}

theorem mem_uc (b : Ref sig .tc) (h : b.isScoped = false) : dr b ∈ ucRefs τ sig :=
  Finset.mem_filter.mpr ⟨StableHlo.devRef_mem_tcRefs b, fun h' => Bool.false_ne_true (h.symm.trans h')⟩
theorem scRefs_sub : scRefs ⊆ ucRefs τ sig := by
  intro b hb; simp only [scRefs, Finset.mem_insert, Finset.mem_singleton] at hb
  rcases hb with rfl | rfl | rfl <;> exact mem_uc _ (by decide)
theorem finRefs_sub : finRefs ⊆ ucRefs τ sig := by
  intro b hb; simp only [finRefs, Finset.mem_insert, Finset.mem_singleton] at hb
  rcases hb with rfl | rfl | rfl <;> exact mem_uc _ (by decide)

theorem dr_ne {a b : Ref sig .tc} (h : a ≠ b) : dr a ≠ dr b := fun e => h (Proc.devRef_injective _ e)

theorem held_sc (d : Dev nD) (W : Valuation τ sig (Elt F)) :
    (held (d.tc : Thread nD τ) scRefs W : sProp 𝕄)
      = iprop((xLoc d ↦{fullShare} W (dr main_arg0)) ∗ (tLoc d ↦{fullShare} W (dr main_arg1)) ∗ (oLoc d ↦{fullShare} W (dr main_v0))) := by
  unfold StableHlo.held scRefs
  rw [SparseCore.bigSep_insert' (by simp [dr_ne (show main_arg0 ≠ main_arg1 by decide), dr_ne (show main_arg0 ≠ main_v0 by decide)]),
    SparseCore.bigSep_insert' (by simp [dr_ne (show main_arg1 ≠ main_v0 by decide)]), bigSep_singleton]
abbrev rLoc (d : Dev nD) : Loc nD τ sig := (d.tc : Thread nD τ).loc main_v23
theorem held_fin (d : Dev nD) (W : Valuation τ sig (Elt F)) :
    (held (d.tc : Thread nD τ) finRefs W : sProp 𝕄)
      = iprop((xLoc d ↦{fullShare} W (dr main_arg0)) ∗ (tLoc d ↦{fullShare} W (dr main_arg1)) ∗ (rLoc d ↦{fullShare} W (dr main_v23))) := by
  unfold StableHlo.held finRefs
  rw [SparseCore.bigSep_insert' (by simp [dr_ne (show main_arg0 ≠ main_arg1 by decide), dr_ne (show main_arg0 ≠ main_v23 by decide)]),
    SparseCore.bigSep_insert' (by simp [dr_ne (show main_arg1 ≠ main_v23 by decide)]), bigSep_singleton]

theorem V1_arg0 (d : Dev nD) : V1 m d (dr main_arg0) = m (xLoc d) := Function.update_of_ne (dr_ne (by decide)) _ _
theorem V1_arg1 (d : Dev nD) : V1 m d (dr main_arg1) = m (tLoc d) := Function.update_of_ne (dr_ne (by decide)) _ _
theorem V1_v0 (d : Dev nD) : V1 m d (dr main_v0) = scVal m d := Function.update_self _ _ _

theorem held_V1_rest (d : Dev nD) :
    (held (d.tc : Thread nD τ) (ucRefs τ sig \ scRefs) (fun b => m (d, b)) : sProp 𝕄) = held (d.tc : Thread nD τ) (ucRefs τ sig \ scRefs) (V1 m d) :=
  StableHlo.held_congr (d.tc : Thread nD τ) fun b hb => by
    have hne : b ≠ dr main_v0 := fun e => (Finset.mem_sdiff.mp hb).2 (by rw [e]; simp [scRefs])
    unfold V1; rw [Function.update_of_ne hne]

/-! ## The launch's ghost state -/

abbrev adm : (p : Fin 1) → (pcfgs (F := F) p).Adm := fun p => (cfgs p).toPCfg_adm

/-- The pipeline's ghost state on device `d`. -/
def G (d : Dev nD) : sProp 𝕄 := iprop(Pipeline.cellsGhost cfgs EP 0 d ∗ Pipeline.toksInit cfgs EP 0 d)

def u₀ : UU := (initOf (K (F := F)).hsCells (K (F := F)).hsToks,
  (initOf (Pipeline.cells (nD := nD) (τ := τ) cfgs cellOf_inj) (Pipeline.launchToks (nD := nD) (τ := τ) cfgs cellOf_inj), 1))

theorem own_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem ghost_one (Φ : Fin 1 → Dev nD → sProp 𝕄) :
    (bigSep Finset.univ fun d : Dev nD => bigSep Finset.univ fun p : Fin 1 => Φ p d) = bigSep Finset.univ fun d : Dev nD => Φ 0 d :=
  bigSep_congr fun _ _ => bigSep_univ_of_subsingleton (0 : Fin 1)
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀ G
  rw [bigSep_sep']
  iintro Hu
  ihave H := (own_split (F := F) _ _) $$ Hu
  icases H with ⟨HH, HP⟩
  imod (Pipeline.fund_ghost (Ix := HIx 1) (Name := ℕ) (U := UU) (Lvl := ℕ) (Val := Elt F) cfgs EP cellOf_inj) $$ HP with ⟨Hg, Ht⟩
  imodintro
  isplitl [HH]; · iexact HH
  isplitl [Hg Ht]
  · isplitl [Hg]
    · iapply (Entails.of_eq (ghost_one (F := F) fun p d => Pipeline.cellsGhost cfgs EP p d)); iexact Hg
    · iapply (Entails.of_eq (ghost_one (F := F) fun p d => Pipeline.toksInit cfgs EP p d)); iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## @main on the TensorCore -/

theorem st0_eq (d : Dev nD) : (bigSep Finset.univ fun c : Fin ((K (F := F)).nCore 0) => (P m).st 0 d c)
    = iprop((bigSep Finset.univ fun c : Fin 2 => xLoc d ↦{qC c.val} m (xLoc d)) ∗ (bigSep Finset.univ fun c : Fin 2 => tLoc d ↦{qC c.val} m (tLoc d))
        ∗ (bigSep Finset.univ fun c : Fin 2 => oLoc d ↦[coreSet c.val]{fullShare} m (oLoc d))) := by
  show (bigSep (Finset.univ : Finset (Fin 2)) fun c => coreIn m d c.val (m (oLoc d))) = _
  rw [bigSep_sep', bigSep_sep']
theorem dn0_eq (d : Dev nD) : (bigSep Finset.univ fun c : Fin ((K (F := F)).nCore 0) => (P m).dn 0 d c)
    = iprop((bigSep Finset.univ fun c : Fin 2 => xLoc d ↦{qC c.val} m (xLoc d)) ∗ (bigSep Finset.univ fun c : Fin 2 => tLoc d ↦{qC c.val} m (tLoc d))
        ∗ (bigSep Finset.univ fun c : Fin 2 => oLoc d ↦[coreSet c.val]{fullShare} scVal m d)) := by
  show (bigSep (Finset.univ : Finset (Fin 2)) fun c => coreIn m d c.val (scVal m d)) = _
  rw [bigSep_sep', bigSep_sep']

/-- What @main leaves the claim: the two arguments and the result, at what they end at. -/
abbrev FIN (d : Dev nD) : sProp 𝕄 :=
  iprop((xLoc d ↦{fullShare} Vend m d (dr main_arg0)) ∗ (tLoc d ↦{fullShare} Vend m d (dr main_arg1)) ∗ (rLoc d ↦{fullShare} Vend m d (dr main_v23)))

/-- The bound on the levels of the waits the TensorCore has done once the SparseCore call is over. -/
abbrev bnd : ℕ := 8 * (inferInstance : SparseCore.Cfg.Blocks 1 1).fst 1

set_option maxHeartbeats 1000000 in
theorem hmain (κ : GSem nD τ sig → ℕ) (d : Dev nD) [∀ e, Nonempty (Elt F e)] :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, wp_bind]
  iintro ⟨#Hctx, Hst, ⟨Hb, Hub, Hts, -⟩, HG⟩
  ihave Hh := (Entails.of_eq (Pipeline.unscopedBufs_held (Ix := HIx 1) (Name := ℕ) (U := UU) (Lvl := ℕ) d (fun b => m (d, b)))) $$ Hub
  ihave Hh := (Entails.of_eq (StableHlo.held_sub_split _ scRefs_sub _)) $$ Hh
  icases Hh with ⟨Hsc, Hrest⟩
  ihave Hsc := (Entails.of_eq (held_sc (F := F) d _)) $$ Hsc
  icases Hsc with ⟨Hx, Ht, Ho⟩
  ihave Hx := (toksFin (F := F) fullShare 2 (m (xLoc d))).1 $$ Hx
  icases Hx with ⟨Hxd, Hx⟩
  ihave Ht := (toksFin (F := F) fullShare 2 (m (tLoc d))).1 $$ Ht
  icases Ht with ⟨Htd, Ht⟩
  ihave Ho := (Entails.of_eq (out_cores (F := F) d (m (oLoc d)))) $$ Ho
  iapply ((K (F := F)).wp_run (D (F := F)) 𝒱 (EH := EH) (P := P m) κ d 0) $$ [Hst Hx Ht Ho Hxd Htd Hrest Hb Hts HG]
  isplitr; · iexact Hctx
  isplitl [Hst]; · iexact Hst
  isplitl [Hx Ht Ho]
  · rw [st0_eq]
    isplitl [Hx]; · iexact Hx
    isplitl [Ht]; · iexact Ht
    iexact Ho
  iintro ⟨Hst, Hdn⟩
  ihave Hdn := (Entails.of_eq (dn0_eq m d)) $$ Hdn
  icases Hdn with ⟨Hx, Ht, Ho⟩
  ihave Hx := (toksFin (F := F) fullShare 2 (m (xLoc d))).2 $$ [Hxd Hx]
  · isplitl [Hxd] <;> iassumption
  ihave Ht := (toksFin (F := F) fullShare 2 (m (tLoc d))).2 $$ [Htd Ht]
  · isplitl [Htd] <;> iassumption
  ihave Ho := (Entails.of_eq (out_cores (F := F) d (scVal m d)).symm) $$ Ho
  ihave Hrest := (Entails.of_eq (held_V1_rest m d)) $$ Hrest
  ihave Hh := (show iprop((xLoc d ↦{fullShare} m (xLoc d)) ∗ (tLoc d ↦{fullShare} m (tLoc d)) ∗ (oLoc d ↦{fullShare} scVal m d)
        ∗ held (d.tc : Thread nD τ) (ucRefs τ sig \ scRefs) (V1 m d)) ⊢ (held (d.tc : Thread nD τ) (ucRefs τ sig) (V1 m d) : sProp 𝕄) from by
      rw [StableHlo.held_sub_split _ scRefs_sub, held_sc, V1_arg0, V1_arg1, V1_v0]
      iintro ⟨Hx, Ht, Ho, Hr⟩
      isplitl [Hx Ht Ho]
      · isplitl [Hx]; · iexact Hx
        isplitl [Ht] <;> iassumption
      iexact Hr) $$ [Hx Ht Ho Hrest]
  · isplitl [Hx]; · iexact Hx
    isplitl [Ht]; · iexact Ht
    isplitl [Ho] <;> iassumption
  -- the reshape
  iapply (StableHlo.wp_seq 𝒱 none Set.univ d (ucRefs τ sig) _ preOps
    (fun op h => Pipeline.sub_ucRefs op ((List.forall_iff_forall_mem.mp preOps_sub) op h)) (by intro op h; fin_cases h; rfl) (V1 m d)) $$ [Hb Hh]
  · isplitl [Hb] <;> iassumption
  iintro ⟨Hb, Hh⟩
  -- the pallas_call
  rw [wp_bind]
  iapply ((K (F := F)).wp_liftProg (D (F := F)) 𝒱 (SparseCore.T d) Set.univ none)
  iapply (Pipeline.RegionSeg.wp (pcfgs (F := F)) adm (pdats (fun c b => V2 m c (dr b)) bnd adm) none cellOf_inj EP defs₀ 𝒱₀
      (K (F := F)).L (K (F := F)).lev (reg (fun c b => V2 m c (dr b)) (fun c b => V3 m c (dr b)) bnd adm
        (fun c => Function.update_self _ _ _) (fun c r h => Function.update_of_ne (dr_ne h) _ _)) d none (fun _ h => nomatch h))
  unfold SparseCore.Cfg.tcSt
  icases Hst with ⟨⟨%W, %hW, HO⟩, Hrounds⟩
  ihave Hlev := (SparseCore.Cfg.ctx_levAts κ) $$ Hctx
  unfold G
  icases HG with ⟨Hg, Htk⟩
  isplitr [Hb Hh HO Hlev Hg Htk]
  · iintro ⟨Hb, Hpost⟩
    ihave Hpost := (show (reg (fun c b => V2 m c (dr b)) (fun c b => V3 m c (dr b)) bnd adm (fun c => Function.update_self _ _ _) (fun c r h => Function.update_of_ne (dr_ne h) _ _)).post d ⊢ iprop(unscopedBufs d (fun b => V3 m d (dr b)) ∗ ∃ W, ⌜(K (F := F)).WBelow (d : Thread nD τ) W bnd⌝ ∗ owes (d : Thread nD τ) (0 : CellTallies nD τ sig (HIx 1)) W) from .rfl) $$ Hpost
    icases Hpost with ⟨Hub, ⟨%W', %hW', HO⟩⟩
    ihave Hh := (Entails.of_eq (Pipeline.unscopedBufs_held (Ix := HIx 1) (Name := ℕ) (U := UU) (Lvl := ℕ) d (V3 m d))) $$ Hub
    rw [wp_ret]
    imodintro
    iapply (StableHlo.wp_seq 𝒱 none Set.univ d (ucRefs τ sig) _ postOps
      (fun op h => Pipeline.sub_ucRefs op ((List.forall_iff_forall_mem.mp postOps_sub) op h)) postOps_fresh (V3 m d)) $$ [Hb Hh]
    · isplitl [Hb] <;> iassumption
    iintro ⟨Hb, Hh⟩
    rw [wp_pure]
    imodintro
    ihave Hh := (Entails.of_eq (StableHlo.held_sub_split _ finRefs_sub _)) $$ Hh
    icases Hh with ⟨Hf, -⟩
    ihave Hf := (Entails.of_eq (held_fin (F := F) d _)) $$ Hf
    isplitl [HO Hrounds]
    · isplitl [HO]
      · iexists W'; isplitr; · ipureintro; exact hW'
        rw [(K (F := F)).Otc_end d (le_refl 1)]; iexact HO
      iexact Hrounds
    isplitl [Hf]; · iexact Hf
    isplitl [Hb] <;> iassumption
  isplitl [Hb]; · iexact Hb
  isplitl [Hh HO]
  · iapply (show iprop(unscopedBufs d (fun b => V2 m d (dr b)) ∗ ∃ W, ⌜(K (F := F)).WBelow (d : Thread nD τ) W bnd⌝ ∗ owes (d : Thread nD τ) (0 : CellTallies nD τ sig (HIx 1)) W) ⊢ (reg (fun c b => V2 m c (dr b)) (fun c b => V3 m c (dr b)) bnd adm (fun c => Function.update_self _ _ _) (fun c r h => Function.update_of_ne (dr_ne h) _ _)).pre d from .rfl)
    isplitl [Hh]
    · iapply (Entails.of_eq (Pipeline.unscopedBufs_held (Ix := HIx 1) (Name := ℕ) (U := UU) (Lvl := ℕ) d (V2 m d)).symm); iexact Hh
    iexists W; isplitr; · ipureintro; exact hW
    ihave HO := (Entails.of_eq (congrArg (fun O => owes (SparseCore.T d) O W) (show (K (F := F)).Otc d ((0 : Fin 1).val + 1) = 0 from (K (F := F)).Otc_end d (le_refl 1)))) $$ HO
    iexact HO
  isplitl [Hlev]; · iexact Hlev
  isplitl [Hg] <;> iassumption

/-! ## The run -/

theorem Vend_arg0 (d : Dev nD) : Vend m d (dr main_arg0) = m (xLoc d) := by
  unfold Vend V3 V2
  rw [StableHlo.after_of_writes_sub (W := postW) postOps _ (StableHlo.forall_writes_sub_of_map rfl) (by decide), Function.update_of_ne (dr_ne (by decide)),
    StableHlo.after_of_writes_sub (W := [main_v1]) preOps _ (StableHlo.forall_writes_sub_of_map rfl) (by decide), V1_arg0]
theorem Vend_arg1 (d : Dev nD) : Vend m d (dr main_arg1) = m (tLoc d) := by
  unfold Vend V3 V2
  rw [StableHlo.after_of_writes_sub (W := postW) postOps _ (StableHlo.forall_writes_sub_of_map rfl) (by decide), Function.update_of_ne (dr_ne (by decide)),
    StableHlo.after_of_writes_sub (W := [main_v1]) preOps _ (StableHlo.forall_writes_sub_of_map rfl) (by decide), V1_arg1]

def fq (d : Dev nD) (s' : Phys nD τ sig (Elt F)) : Prop :=
  s'.mem.mem (rLoc d) = Vend m d (dr main_v23) ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := Vend m d (dr main_arg0)))) $$ [HSI Hx]
  · isplitl [HSI] <;> iassumption
  icases H with ⟨%hx, HSI, -⟩
  ihave H := (persistent_entails_right (SI_pointsTo_agree (st := s') (ℓ := tLoc d) (I := Finset.univ) (q := fullShare) (f := Vend m d (dr main_arg1)))) $$ [HSI Ht]
  · isplitl [HSI] <;> iassumption
  icases H with ⟨%ht, HSI, -⟩
  ihave H := (SI_pointsTo_agree (st := s') (ℓ := rLoc d) (I := Finset.univ) (q := fullShare) (f := Vend m d (dr main_v23))) $$ [HSI Hr]
  · isplitl [HSI] <;> iassumption
  icases H with %hr
  ipureintro
  exact ⟨funext fun i => hr i (Finset.mem_univ i), (funext fun i => hx i (Finset.mem_univ i)).trans (Vend_arg0 m d),
    (funext fun i => ht i (Finset.mem_univ i)).trans (Vend_arg1 m d)⟩

def QC : PUnit × MemSt nD τ sig (Elt F) → Prop := fun r =>
  (∀ d : Dev nD, r.2.mem (rLoc d) = Vend m d (dr main_v23) ∧ r.2.mem (xLoc d) = m (xLoc d) ∧ r.2.mem (tLoc d) = m (tLoc d)) ∧ r.2.sem = fun _ => 0

/-- The program runs to its end from any memory: the result is `Vend`'s, the arguments and every counter are as they were. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main G (FIN m) (u₀ (F := F)) (sep_elim_left.trans (hu₀ m)) (fun κ d => hmain m ρ κ d) (fq m) (hfin m) (QC m) (fun _ h hz => ⟨h, hz⟩)

end Cert.Proof.Run
-- ==== Proof.Frames.lean ====
/-
  The frames: the kernel, its reading over the extended reals and the reference each run to their end, leave their
  arguments as they were and every semaphore counter at zero.
-/
module

public import proofs.«01_k».proof.Defs
public import proofs.«01_k».proof.Proof.Main
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.SL.Sem

/-- `Cert.quiescent_KernelIdeal` (proof/Defs.lean). -/
theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩) (Run.run_main (F := Ideal) m ρ)

/-- The run at the bits with the frame's postcondition: both arguments kept, every counter at zero. -/
theorem run_bits (m ρ) : θ_run (Cert.KernelIdeal.defs (F := Bits)) Cert.KernelIdeal.threads ⟨m, fun _ => 0, ρ⟩ fun r =>
    (∀ d, r.2.mem (Run.xLoc d) = m (Run.xLoc d) ∧ r.2.mem (Run.tLoc d) = m (Run.tLoc d)) ∧ r.2.sem = fun _ => 0 :=
  (θ_run Cert.KernelIdeal.defs _ _).mono (fun _ h => ⟨fun c => (h.1 c).2, h.2⟩) (Run.run_main (F := Bits) m ρ)

set_option maxHeartbeats 4000000 in
set_option smartUnfolding false in
/-- `Cert.quiescent_Kernel` (proof/Defs.lean): the kernel is the same text, read at the bits. -/
theorem frame_kernel : Cert.quiescent_Kernel (hKernel := Cert.Kernel.Gen.facts) := fun m ρ _ => by
  have h := run_bits m ρ
  exact h

/-- `Cert.quiescent_ReferenceIdeal` (proof/Defs.lean): the reference declares no semaphore. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Sums.lean ====
/-
  Finite sums re-indexed: a sum over an array's indices row by row and column by column, and the order in which the
  kernel's tiles, blocks, trips and lanes take the first 98304 columns. In any commutative monoid.
-/
module

public import proofs.«01_k».proof.Proof.Tile
public import Mathlib.Algebra.BigOperators.Fin
public import Mathlib.Algebra.BigOperators.Intervals

@[expose] public section

noncomputable section

namespace Cert.Proof.Sums

open Idealize.ShloMosaic Cert.KernelIdeal Cert.Proof.Run
open Finset

variable {M : Type*} [AddCommMonoid M]

/-- A sum over `a * b` places is a sum over `a` runs of `b`. -/
theorem sum_mul (a b : ℕ) (f : ℕ → M) : ∑ i ∈ range (a * b), f i = ∑ i ∈ range a, ∑ j ∈ range b, f (i * b + j) := by
  induction a with
  | zero => simp
  | succ n ih => rw [Nat.succ_mul, sum_range_add, ih, sum_range_succ]

/-- A sum over a matrix's indices, row by row. -/
theorem sum_matrix {a b : ℕ} (g : (⟨2, ![a, b]⟩ : Shape).Idx → M) (h : ℕ → ℕ → M)
    (e : ∀ i : (⟨2, ![a, b]⟩ : Shape).Idx, g i = h (i 0).val (i 1).val) :
    ∑ i, g i = ∑ r ∈ range a, ∑ c ∈ range b, h r c := by
  have e2 : ∀ r : Fin a, ∑ c ∈ range b, h r.val c = ∑ c : Fin b, h r.val c.val := fun r => (Fin.sum_univ_eq_sum_range (h r.val) b).symm
  rw [← Fin.sum_univ_eq_sum_range (fun r => ∑ c ∈ range b, h r c) a]
  simp only [e2]
  rw [← Fintype.sum_prod_type' (f := fun (r : Fin a) (c : Fin b) => h r.val c.val)]
  refine Fintype.sum_equiv (piFinTwoEquiv fun k : Fin 2 => Fin ((⟨2, ![a, b]⟩ : Shape).size k)) _ _ fun i => ?_
  exact e i

theorem ix2_eta (i : S16x262144.Idx) : ix2 (i 0).val (i 1).val = i := by
  funext a
  match a with
  | 0 => exact Fin.ext (Nat.mod_eq_of_lt (i 0).isLt)
  | 1 => exact Fin.ext (Nat.mod_eq_of_lt (i 1).isLt)

/-- A sum over the whole array, row by row. -/
theorem sum_all (g : S16x262144.Idx → M) : ∑ i, g i = ∑ r ∈ range 16, ∑ c ∈ range 262144, g (ix2 r c) :=
  sum_matrix g (fun r c => g (ix2 r c)) fun i => by rw [ix2_eta]

/-- The order of the SparseCore's sum: thirty-two tiles, sixteen lanes, eight accumulators, three blocks, 128 trips; together every
    element of the first 98304 columns once. -/
theorem sum_tiles (H : ℕ → ℕ → M) :
    ∑ w ∈ range 32, ∑ l ∈ range 16, ∑ k ∈ range 8, ∑ q ∈ range 3, ∑ n ∈ range 128,
        H ((3 * w + q) / 48 * 8 + n / 16) ((3 * w + q) % 48 * 2048 + (n % 16 * 128 + 16 * k + l))
      = ∑ r ∈ range 16, ∑ c ∈ range 98304, H r c := by
  -- one block, in the order of its lanes, accumulators and trips
  have block : ∀ b : ℕ, (∑ l ∈ range 16, ∑ k ∈ range 8, ∑ n ∈ range 128, H (b / 48 * 8 + n / 16) (b % 48 * 2048 + (n % 16 * 128 + 16 * k + l)))
      = ∑ y ∈ range 8, ∑ z ∈ range 2048, H (b / 48 * 8 + y) (b % 48 * 2048 + z) := by
    intro b
    have trips : ∀ l k : ℕ, (∑ n ∈ range 128, H (b / 48 * 8 + n / 16) (b % 48 * 2048 + (n % 16 * 128 + 16 * k + l)))
        = ∑ y ∈ range 8, ∑ s ∈ range 16, H (b / 48 * 8 + y) (b % 48 * 2048 + (s * 128 + (k * 16 + l))) := by
      intro l k
      rw [show (128 : ℕ) = 8 * 16 from rfl, sum_mul]
      refine sum_congr rfl fun y _ => sum_congr rfl fun s hs => ?_
      have hs' : s < 16 := mem_range.mp hs
      rw [show (y * 16 + s) / 16 = y by omega, show (y * 16 + s) % 16 = s by omega, show s * (8 * 16) + 16 * k + l = s * 128 + (k * 16 + l) by omega]

    have cols : ∀ f : ℕ → M, ∑ z ∈ range 2048, f z = ∑ l ∈ range 16, ∑ k ∈ range 8, ∑ s ∈ range 16, f (s * 128 + (k * 16 + l)) := by
      intro f
      rw [show (2048 : ℕ) = 16 * 128 from rfl, sum_mul]
      have inner : ∀ s, ∑ j ∈ range 128, f (s * 128 + j) = ∑ l ∈ range 16, ∑ k ∈ range 8, f (s * 128 + (k * 16 + l)) := by
        intro s
        rw [show range 128 = range (8 * 16) from rfl, sum_mul 8 16 (fun j => f (s * 128 + j)), sum_comm]
      simp only [inner]
      rw [sum_comm]
      exact sum_congr rfl fun l _ => sum_comm
    simp only [trips]
    have step : ∀ l : ℕ, (∑ k ∈ range 8, ∑ y ∈ range 8, ∑ s ∈ range 16, H (b / 48 * 8 + y) (b % 48 * 2048 + (s * 128 + (k * 16 + l))))
        = ∑ y ∈ range 8, ∑ k ∈ range 8, ∑ s ∈ range 16, H (b / 48 * 8 + y) (b % 48 * 2048 + (s * 128 + (k * 16 + l))) := fun l => sum_comm
    simp only [step]
    rw [sum_comm]
    exact sum_congr rfl fun y _ => (cols fun z => H (b / 48 * 8 + y) (b % 48 * 2048 + z)).symm
  -- the tile's blocks moved outwards
  have out : ∀ w : ℕ, (∑ l ∈ range 16, ∑ k ∈ range 8, ∑ q ∈ range 3, ∑ n ∈ range 128,
        H ((3 * w + q) / 48 * 8 + n / 16) ((3 * w + q) % 48 * 2048 + (n % 16 * 128 + 16 * k + l)))
      = ∑ q ∈ range 3, ∑ y ∈ range 8, ∑ z ∈ range 2048, H ((w * 3 + q) / 48 * 8 + y) ((w * 3 + q) % 48 * 2048 + z) := by
    intro w
    have e1 : ∀ l : ℕ, (∑ k ∈ range 8, ∑ q ∈ range 3, ∑ n ∈ range 128,
        H ((3 * w + q) / 48 * 8 + n / 16) ((3 * w + q) % 48 * 2048 + (n % 16 * 128 + 16 * k + l)))
        = ∑ q ∈ range 3, ∑ k ∈ range 8, ∑ n ∈ range 128,
        H ((3 * w + q) / 48 * 8 + n / 16) ((3 * w + q) % 48 * 2048 + (n % 16 * 128 + 16 * k + l)) := fun l => sum_comm
    simp only [e1]
    rw [sum_comm]
    refine sum_congr rfl fun q _ => ?_
    rw [show w * 3 + q = 3 * w + q by omega]
    exact block (3 * w + q)
  simp only [out]
  -- ninety-six blocks: two rows of forty-eight
  rw [← sum_mul 32 3 (fun b => ∑ y ∈ range 8, ∑ z ∈ range 2048, H (b / 48 * 8 + y) (b % 48 * 2048 + z)), show 32 * 3 = 2 * 48 from rfl, sum_mul,
    show range 16 = range (2 * 8) from rfl, sum_mul 2 8]
  refine sum_congr rfl fun R _ => ?_
  have e2 : ∀ C ∈ range 48, (∑ y ∈ range 8, ∑ z ∈ range 2048, H ((R * 48 + C) / 48 * 8 + y) ((R * 48 + C) % 48 * 2048 + z))
      = ∑ y ∈ range 8, ∑ z ∈ range 2048, H (R * 8 + y) (C * 2048 + z) := by
    intro C hC
    have hC' : C < 48 := mem_range.mp hC
    rw [show (R * 48 + C) / 48 = R by omega, show (R * 48 + C) % 48 = C by omega]
  rw [sum_congr rfl e2, sum_comm]
  refine sum_congr rfl fun y _ => ?_
  rw [show range 98304 = range (48 * 2048) from rfl, sum_mul 48 2048]

/-- A row split at column 98304, the rest into five runs of 32768. -/
theorem sum_columns (f : ℕ → M) : ∑ c ∈ range 262144, f c
    = ∑ c ∈ range 98304, f c + ∑ p ∈ range 5, ∑ b ∈ range 32768, f ((p + 3) * 32768 + b) := by
  have e : (262144 : ℕ) = 98304 + 5 * 32768 := by norm_num
  have e2 : ∀ p b : ℕ, 98304 + (p * 32768 + b) = (p + 3) * 32768 + b := fun p b => by ring
  generalize 98304 = n at e e2 ⊢
  generalize 262144 = m at e ⊢
  subst e
  rw [sum_range_add, sum_mul 5 32768 (fun i => f (n + i))]
  simp only [e2]

end Cert.Proof.Sums

end
-- ==== Proof.ScSums.lean ====
/-
  What the SparseCore's part sums to over the extended reals: each of its three rows is a sum over the first 98304 columns,
  one term an element.
-/
module

public import proofs.«01_k».proof.Proof.Sums
public import Idealize.ShloMosaic.Lib.Pipeline.Value
public import Idealize.ShloMosaic.PureOps.Ideal.Laws

@[expose] public section

noncomputable section

namespace Cert.Proof.Sums

open Idealize.ShloMosaic Cert.KernelIdeal Cert.KernelIdeal.Gen Cert.Proof.Run
open Finset

/-- The SparseCore's loss of one element. -/
def scLoss (x t : EReal) : EReal :=
  (((Ideal.ofBits .f32 0xBE74C455#32 * Ideal.exp (Ideal.ofBits .f32 0x00000000#32 - max x (-x)) + Ideal.ofBits .f32 0x3F6CE264#32)
      * Ideal.exp (Ideal.ofBits .f32 0x00000000#32 - max x (-x)) + Ideal.ofBits .f32 0x3B6065CE#32)
    + max x (Ideal.ofBits .f32 0x00000000#32)) - t * x

/-- The TensorCore's loss of one element. -/
def tcLoss (x t : EReal) : EReal :=
  (Ideal.log1p (Ideal.exp (Ideal.ofBits .f32 0x00000000#32 - max x (-x))) + max x (Ideal.ofBits .f32 0x00000000#32)) - t * x

/-- What an element adds to each of the three sums: its loss `l`, the label times it, the label. -/
def term (q : ℕ) (l : EReal) (t : EReal) : EReal :=
  match q with
  | 0 => l
  | 1 => t * l
  | _ + 2 => t

theorem pay1_at (v : Vec Ideal S1x16 .f32) (i : S16.Idx) : k0_pay1 (F := Ideal) v i = v (Fin.cons ⟨0, Nat.one_pos⟩ i) :=
  shapeCast_dropUnit_apply ![16] v shapeCasts_S1x16_S16 i

theorem pay2_at (x t : Vec Ideal S1x16 .f32) (i : S16.Idx) :
    k0_pay2 (F := Ideal) x t i = scLoss (x (Fin.cons ⟨0, Nat.one_pos⟩ i)) (t (Fin.cons ⟨0, Nat.one_pos⟩ i)) := by
  have hx := pay1_at x i
  have ht := pay1_at t i
  rw [← hx, ← ht]
  rfl

/-- `n` trips, at accumulator `j` and lane `i`. -/
theorem run_at (gx gt : ℕ → ℕ → EReal) (s : Accs Ideal) (n : ℕ) (j : Fin 8) (i : S16.Idx) :
    (Accs.run gx gt s n).a j i = s.a j i + ∑ n' ∈ range n, scLoss (gx (n' / 16) (n' % 16 * 128 + 16 * j.val + (i 0).val)) (gt (n' / 16) (n' % 16 * 128 + 16 * j.val + (i 0).val))
    ∧ (Accs.run gx gt s n).b j i = s.b j i + ∑ n' ∈ range n, gt (n' / 16) (n' % 16 * 128 + 16 * j.val + (i 0).val)
          * scLoss (gx (n' / 16) (n' % 16 * 128 + 16 * j.val + (i 0).val)) (gt (n' / 16) (n' % 16 * 128 + 16 * j.val + (i 0).val))
    ∧ (Accs.run gx gt s n).c j i = s.c j i + ∑ n' ∈ range n, gt (n' / 16) (n' % 16 * 128 + 16 * j.val + (i 0).val) := by
  induction n with
  | zero => simp [Accs.run]
  | succ n ih =>
    obtain ⟨ha, hb, hc⟩ := ih
    refine ⟨?_, ?_, ?_⟩
    · rw [sum_range_succ, ← add_assoc, ← ha]
      show (Accs.run gx gt s n).a j i + k0_pay2 (F := Ideal) (vecAt gx n j) (vecAt gt n j) i = _
      rw [pay2_at]; rfl
    · rw [sum_range_succ, ← add_assoc, ← hb]
      show (Accs.run gx gt s n).b j i + k0_pay1 (F := Ideal) (vecAt gt n j) i * k0_pay2 (F := Ideal) (vecAt gx n j) (vecAt gt n j) i = _
      rw [pay2_at, pay1_at]; rfl
    · rw [sum_range_succ, ← add_assoc, ← hc]
      show (Accs.run gx gt s n).c j i + k0_pay1 (F := Ideal) (vecAt gt n j) i = _
      rw [pay1_at]; rfl

/-- The loss and the label of the element at row `r`, column `c` of a tile's block. -/
abbrev scAt (fX fT : S16x262144.Idx → EReal) (p : ℕ) (r c : ℕ) : EReal := term p (scLoss (fX (ix2 r c)) (fT (ix2 r c))) (fT (ix2 r c))

/-- The accumulators after `Q` blocks. -/
theorem tileAccs_at (fX fT : S16x262144.Idx → EReal) (w Q : ℕ) (j : Fin 8) (i : S16.Idx) :
    (tileAccs (F := Ideal) fX fT w Q).a j i
        = ∑ q ∈ range Q, ∑ n ∈ range 128, scAt fX fT 0 ((3 * w + q) / 48 * 8 + n / 16) ((3 * w + q) % 48 * 2048 + (n % 16 * 128 + 16 * j.val + (i 0).val))
    ∧ (tileAccs (F := Ideal) fX fT w Q).b j i
        = ∑ q ∈ range Q, ∑ n ∈ range 128, scAt fX fT 1 ((3 * w + q) / 48 * 8 + n / 16) ((3 * w + q) % 48 * 2048 + (n % 16 * 128 + 16 * j.val + (i 0).val))
    ∧ (tileAccs (F := Ideal) fX fT w Q).c j i
        = ∑ q ∈ range Q, ∑ n ∈ range 128, scAt fX fT 2 ((3 * w + q) / 48 * 8 + n / 16) ((3 * w + q) % 48 * 2048 + (n % 16 * 128 + 16 * j.val + (i 0).val)) := by
  induction Q with
  | zero =>
    have z : k0_pay136 (F := Ideal) i = 0 := Ideal.ofBits_zero_f32
    refine ⟨?_, ?_, ?_⟩ <;> (rw [range_zero, sum_empty]; exact z)
  | succ Q ih =>
    obtain ⟨ha, hb, hc⟩ := ih
    obtain ⟨ra, rb, rc⟩ := run_at (blk (F := Ideal) fX w Q) (blk (F := Ideal) fT w Q) (tileAccs (F := Ideal) fX fT w Q) 128 j i
    refine ⟨?_, ?_, ?_⟩
    · rw [sum_range_succ, ← ha]; exact ra
    · rw [sum_range_succ, ← hb]; exact rb
    · rw [sum_range_succ, ← hc]; exact rc

theorem sum8_at (A : Fin 8 → FVec Ideal S16 .f32) (i : S16.Idx) : sum8 A i = ∑ k : Fin 8, A k i := by
  rw [Fin.sum_univ_eight]; rfl

/-- Lane `i` of row `p` of what tile `w` leaves. -/
theorem tileOut_at (fX fT : S16x262144.Idx → EReal) (w p : ℕ) (i : S16.Idx) :
    tileOut (F := Ideal) fX fT w p i
      = ∑ k ∈ range 8, ∑ q ∈ range 3, ∑ n ∈ range 128, scAt fX fT p ((3 * w + q) / 48 * 8 + n / 16) ((3 * w + q) % 48 * 2048 + (n % 16 * 128 + 16 * k + (i 0).val)) := by
  rw [← Fin.sum_univ_eq_sum_range (fun k => ∑ q ∈ range 3, ∑ n ∈ range 128, scAt fX fT p ((3 * w + q) / 48 * 8 + n / 16) ((3 * w + q) % 48 * 2048 + (n % 16 * 128 + 16 * k + (i 0).val)))]
  match p with
  | 0 => exact (sum8_at _ i).trans (sum_congr rfl fun k _ => (tileAccs_at fX fT w 3 k i).1)
  | 1 => exact (sum8_at _ i).trans (sum_congr rfl fun k _ => (tileAccs_at fX fT w 3 k i).2.1)
  | _ + 2 => exact (sum8_at _ i).trans (sum_congr rfl fun k _ => (tileAccs_at fX fT w 3 k i).2.2)

/-- Place `j` of the SparseCore's output (wrapped into range). -/
def ix1536 (j : ℕ) : S1536.Idx := fun
  | 0 => ⟨j % 1536, Nat.mod_lt _ (by decide)⟩

/-- Row `p` of the SparseCore's output, summed: every element of the first 98304 columns once. -/
theorem scOut_row (fX fT : S16x262144.Idx → EReal) (p : ℕ) (hp : p < 3) :
    ∑ j ∈ range 512, scOut (F := Ideal) fX fT (ix1536 (512 * p + j)) = ∑ r ∈ range 16, ∑ c ∈ range 98304, scAt fX fT p r c := by
  rw [← sum_tiles (scAt fX fT p), show range 512 = range (32 * 16) from rfl, sum_mul 32 16]
  refine sum_congr rfl fun w hw => sum_congr rfl fun l hl => ?_
  have hw' : w < 32 := mem_range.mp hw
  have hl' : l < 16 := mem_range.mp hl
  have e1 : (512 * p + (w * 16 + l)) % 1536 % 512 / 16 = w := by omega
  have e2 : (512 * p + (w * 16 + l)) % 1536 / 512 = p := by omega
  have e3 : (512 * p + (w * 16 + l)) % 1536 % 16 = l := by omega
  show tileOut (F := Ideal) fX fT ((512 * p + (w * 16 + l)) % 1536 % 512 / 16) ((512 * p + (w * 16 + l)) % 1536 / 512) (ix16 ((512 * p + (w * 16 + l)) % 1536)) = _
  rw [e1, e2, tileOut_at]
  show (∑ k ∈ range 8, ∑ q ∈ range 3, ∑ n ∈ range 128, scAt fX fT p ((3 * w + q) / 48 * 8 + n / 16)
    ((3 * w + q) % 48 * 2048 + (n % 16 * 128 + 16 * k + (512 * p + (w * 16 + l)) % 1536 % 16))) = _
  rw [e3]

end Cert.Proof.Sums

end
-- ==== Proof.TcSums.lean ====
/-
  What the TensorCore's part sums to over the extended reals: each of its three results is a sum over the columns from 98304
  on, one term an element.
-/
module

public import proofs.«01_k».proof.Proof.ScSums
public import proofs.«01_k».proof.Proof.Region

@[expose] public section

noncomputable section

namespace Cert.Proof.Sums

open Idealize.ShloMosaic Cert.KernelIdeal Cert.KernelIdeal.Gen Cert.Proof.Run
open Finset

theorem index0 : ∀ t : Fin cfg1.N, (cfg1.win 0).index t = ![0, t.val + 3] := by decide +kernel
theorem index1 : ∀ t : Fin cfg1.N, (cfg1.win 1).index t = ![0, t.val + 3] := by decide +kernel

/-- The loss and the label of the element at row `r`, column `c`, as the TensorCore takes them. -/
abbrev tcAt (fX fT : S16x262144.Idx → EReal) (p : ℕ) (r c : ℕ) : EReal := term p (tcLoss (fX (ix2 r c)) (fT (ix2 r c))) (fT (ix2 r c))

variable (V : (c : Dev nD) → (b : Ref sig .tc) → Buf (Elt Ideal) ((c.tc : Thread nD τ).loc b)) (c : Dev nD)

/-- Element `i` of the block of logits at point `t`. -/
theorem xBlk_at (t : Fin cfg1.N) (i : S16x32768.Idx) : xBlk V c t i = V c main_arg0 (ix2 (i 0).val ((t.val + 3) * 32768 + (i 1).val)) := by
  have h0 : (i 0).val < 16 := (i 0).isLt
  have h1 : (i 1).val < 32768 := (i 1).isLt
  have ht : t.val < 5 := t.isLt
  have e0 := Pipeline.Window.rect_emb_val (cfg1.win 0) t i 0
  have e1 := Pipeline.Window.rect_emb_val (cfg1.win 0) t i 1
  rw [index0 t] at e0 e1
  show V c main_arg0 (((cfg1.win 0).rect t).emb i) = _
  congr 1
  funext a
  match a with
  | 0 =>
    apply Fin.ext
    refine e0.trans ?_
    show 0 * _ + (i 0).val = (i 0).val % 16
    omega
  | 1 =>
    apply Fin.ext
    refine e1.trans ?_
    show (t.val + 3) * 32768 + (i 1).val = ((t.val + 3) * 32768 + (i 1).val) % 262144
    omega

/-- Element `i` of the block of labels at point `t`. -/
theorem tBlk_at (t : Fin cfg1.N) (i : S16x32768.Idx) : tBlk V c t i = V c main_arg1 (ix2 (i 0).val ((t.val + 3) * 32768 + (i 1).val)) := by
  have h0 : (i 0).val < 16 := (i 0).isLt
  have h1 : (i 1).val < 32768 := (i 1).isLt
  have ht : t.val < 5 := t.isLt
  have e0 := Pipeline.Window.rect_emb_val (cfg1.win 1) t i 0
  have e1 := Pipeline.Window.rect_emb_val (cfg1.win 1) t i 1
  rw [index1 t] at e0 e1
  show V c main_arg1 (((cfg1.win 1).rect t).emb i) = _
  congr 1
  funext a
  match a with
  | 0 =>
    apply Fin.ext
    refine e0.trans ?_
    show 0 * _ + (i 0).val = (i 0).val % 16
    omega
  | 1 =>
    apply Fin.ext
    refine e1.trans ?_
    show (t.val + 3) * 32768 + (i 1).val = ((t.val + 3) * 32768 + (i 1).val) % 262144
    omega

/-- A block's total, as the last point takes it. -/
theorem total_at (v : Vec Ideal S16x32768 .f32) : k1_pay1 (F := Ideal) v = ∑ i, v i := by
  have h := Ideal.multiReduction_add_total (φ := .f32) (shapeCast S1x16x32768 v shapeCasts_S16x32768_S1x16x32768) 0x00000000#32 reduces_S1x16x32768_S1
    (by decide) (.inl rfl) rfl (Shape.reshapeEquiv shapeCasts_S1_S1x1x1 (fun a => ⟨![0, 0, 0] a, inpos_S1x1x1_p0_0_0 a⟩))
  refine Eq.trans h ?_
  exact Equiv.sum_comp (Shape.reshapeEquiv shapeCasts_S16x32768_S1x16x32768) v

/-- The loss a point adds at each element. -/
theorem pay7_at (x t : Vec Ideal S16x32768 .f32) (i : S16x32768.Idx) : k1_pay7 (F := Ideal) x t i = tcLoss (x i) (t i) := rfl

theorem pay8_at (x t a : Vec Ideal S16x32768 .f32) (i : S16x32768.Idx) : k1_pay8 (F := Ideal) x t a i = a i + tcLoss (x i) (t i) := by
  unfold k1_pay8
  exact congrFun (shapeCast_self _ _) i
theorem pay9_at (x t a : Vec Ideal S16x32768 .f32) (i : S16x32768.Idx) : k1_pay9 (F := Ideal) x t a i = a i + t i * tcLoss (x i) (t i) := by
  unfold k1_pay9
  exact congrFun (shapeCast_self _ _) i
theorem pay10_at (t a : Vec Ideal S16x32768 .f32) (i : S16x32768.Idx) : k1_pay10 (F := Ideal) t a i = a i + t i := by
  unfold k1_pay10
  exact congrFun (shapeCast_self _ _) i
theorem pay4_at (i : S16x32768.Idx) : k1_pay4 (F := Ideal) i = 0 := by
  unfold k1_pay4
  exact (congrFun (shapeCast_self _ _) i).trans Ideal.ofBits_zero_f32

/-- The running sums after `n` points, at element `i` of a block. -/
theorem sums_at (n : ℕ) (hn : n ≤ 5) (i : S16x32768.Idx) :
    (sums V c n).l i = ∑ p ∈ range n, tcAt (V c main_arg0) (V c main_arg1) 0 (i 0).val ((p + 3) * 32768 + (i 1).val)
    ∧ (sums V c n).p i = ∑ p ∈ range n, tcAt (V c main_arg0) (V c main_arg1) 1 (i 0).val ((p + 3) * 32768 + (i 1).val)
    ∧ (sums V c n).t i = ∑ p ∈ range n, tcAt (V c main_arg0) (V c main_arg1) 2 (i 0).val ((p + 3) * 32768 + (i 1).val) := by
  induction n with
  | zero =>
    refine ⟨?_, ?_, ?_⟩ <;> (rw [range_zero, sum_empty]; exact pay4_at i)
  | succ n ih =>
    obtain ⟨ha, hb, hc⟩ := ih (by omega)
    have hlt : n < cfg1.N := by show n < 5; omega
    have e := sums_succ V c ⟨n, hlt⟩
    have ex := xBlk_at V c ⟨n, hlt⟩ i
    have et := tBlk_at V c ⟨n, hlt⟩ i
    rw [show sums V c (n + 1) = (sums V c n).step (xBlk V c ⟨n, hlt⟩) (tBlk V c ⟨n, hlt⟩) from e]
    refine ⟨?_, ?_, ?_⟩
    · rw [sum_range_succ, ← ha]
      refine (pay8_at _ _ _ i).trans ?_
      rw [ex, et]; rfl
    · rw [sum_range_succ, ← hb]
      refine (pay9_at _ _ _ i).trans ?_
      rw [ex, et]; rfl
    · rw [sum_range_succ, ← hc]
      refine (pay10_at _ _ i).trans ?_
      rw [et]; rfl

/-- Result `p` of the TensorCore's part: every element from column 98304 on, once. -/
theorem tcOut_at (j : S3.Idx) : tcOut V c j
    = ∑ r ∈ range 16, ∑ p ∈ range 5, ∑ b ∈ range 32768, tcAt (V c main_arg0) (V c main_arg1) (j 0).val r ((p + 3) * 32768 + b) := by
  have key : ∀ (q : ℕ) (v : Vec Ideal S16x32768 .f32),
      (∀ i, v i = ∑ p ∈ range 5, tcAt (V c main_arg0) (V c main_arg1) q (i 0).val ((p + 3) * 32768 + (i 1).val)) →
      k1_pay1 (F := Ideal) v = ∑ r ∈ range 16, ∑ p ∈ range 5, ∑ b ∈ range 32768, tcAt (V c main_arg0) (V c main_arg1) q r ((p + 3) * 32768 + b) := by
    intro q v hv
    rw [total_at, sum_matrix (a := 16) (b := 32768) v (fun r b => ∑ p ∈ range 5, tcAt (V c main_arg0) (V c main_arg1) q r ((p + 3) * 32768 + b)) hv]
    exact sum_congr rfl fun r _ => sum_comm
  have hj : (j 0).val < 3 := (j 0).isLt
  unfold tcOut Sums.out
  rcases (by omega : (j 0).val = 0 ∨ (j 0).val = 1 ∨ (j 0).val = 2) with e | e | e
  · rw [if_pos e, e]; exact key 0 _ fun i => (sums_at V c 5 le_rfl i).1
  · rw [if_neg (by omega), if_pos e, e]; exact key 1 _ fun i => (sums_at V c 5 le_rfl i).2.1
  · rw [if_neg (by omega), if_neg (by omega), e]; exact key 2 _ fun i => (sums_at V c 5 le_rfl i).2.2

end Cert.Proof.Sums

end
-- ==== Proof.KernelValue.lean ====
/-
  The kernel's result over the extended reals: the host's combination of three sums, each over every element of the arrays
  once, the first 98304 columns with the SparseCore's loss and the rest with the TensorCore's.
-/
module

public import proofs.«01_k».proof.Proof.TcSums
public import proofs.«01_k».proof.Proof.Main
public import Idealize.ShloMosaic.Lib.StableHlo.Run

@[expose] public section

noncomputable section

namespace Cert.Proof.Sums

open Idealize.ShloMosaic Cert.KernelIdeal Cert.KernelIdeal.Gen Cert.Proof.Run Idealize.ShloMosaic.StableHlo
open Finset

/-- The balanced mean from the two counts and the two sums. -/
def balance (pc nc ps ns : FVec Ideal S_ .f32) : FVec Ideal S_ .f32 :=
  addf
    (mulf (select (cmpf .ogt pc (constant S_ .f32 0x00000000#32)) (Host.divf ps (maximumf pc (constant S_ .f32 0x3F800000#32))) (constant S_ .f32 0x00000000#32))
      (constant S_ .f32 0x3F000000#32))
    (mulf (select (cmpf .ogt nc (constant S_ .f32 0x00000000#32)) (Host.divf ns (maximumf nc (constant S_ .f32 0x3F800000#32))) (constant S_ .f32 0x00000000#32))
      (constant S_ .f32 0x3F000000#32))

/-- The three totals: the SparseCore's rows summed, and the TensorCore's results added. -/
def totals (V : Valuation τ sig (Elt Ideal)) : FVec Ideal S3 .f32 :=
  addf (Host.reduceAdd (F := Ideal) (V (dr main_v1) : FVec Ideal S3x512 .f32) (constant S_ .f32 0x00000000#32) reducesTo_S3x512_S3_d1 h_S_) (V (dr main_v2) : FVec Ideal S3 .f32)

/-- The three totals, each a scalar. -/
def sBce (v : FVec Ideal S3 .f32) : FVec Ideal S_ .f32 := shapeCast S_ (extractStridedSlice S1 ![0] v slices_S3_S1_0) shapeCasts_S1_S_
def sTb (v : FVec Ideal S3 .f32) : FVec Ideal S_ .f32 := shapeCast S_ (extractStridedSlice S1 ![1] v slices_S3_S1_1) shapeCasts_S1_S_
def sT (v : FVec Ideal S3 .f32) : FVec Ideal S_ .f32 := shapeCast S_ (extractStridedSlice S1 ![2] v slices_S3_S1_2) shapeCasts_S1_S_

set_option maxRecDepth 8192 in
set_option maxHeartbeats 4000000 in
/-- The host's operations after the pallas_call, as one term. -/
theorem post_value (V : Valuation τ sig (Elt Ideal)) : after postOps V (dr main_v23)
    = balance (sT (totals V)) (subf (constant S_ .f32 0x4A800000#32) (sT (totals V))) (sTb (totals V)) (subf (sBce (totals V)) (sTb (totals V))) := by
  simp only [postOps, StableHlo.TRef.unary, StableHlo.TRef.ternary, StableHlo.TRef.toBuf, StableHlo.TRef.ofBuf, cast_eq]
  after_results_simp
  rfl

variable (m : (ℓ : Loc nD τ sig) → Buf (Elt Ideal) ℓ) (d : Dev nD)

theorem V2_arg0 : V2 m d (dr main_arg0) = m (xLoc d) := by
  unfold V2; after_results_simp; exact V1_arg0 m d
theorem V2_arg1 : V2 m d (dr main_arg1) = m (tLoc d) := by
  unfold V2; after_results_simp; exact V1_arg1 m d

theorem V3_v1 : (V3 m d (dr main_v1) : FVec Ideal S3x512 .f32) = shapeCast S3x512 (scVal m d : FVec Ideal S1536 .f32) shapeCasts_S1536_S3x512 := by
  unfold V3
  rw [Function.update_of_ne (dr_ne (by decide))]
  unfold V2
  after_results_simp
  rw [V1_v0]
  rfl

theorem V3_v2 : (V3 m d (dr main_v2) : FVec Ideal S3 .f32) = tcOut (fun c b => V2 m c (dr b)) d := by
  unfold V3
  exact Function.update_self ..

/-- What the element at row `r`, column `c` adds to total `p`. -/
def elt (fX fT : S16x262144.Idx → EReal) (p r c : ℕ) : EReal := if c < 98304 then scAt fX fT p r c else tcAt fX fT p r c

/-- Total `p` is the sum over the whole arrays. -/
theorem totals_at (j : S3.Idx) : totals (V3 m d) j = ∑ r ∈ range 16, ∑ c ∈ range 262144, elt (m (xLoc d)) (m (tLoc d)) (j 0).val r c := by
  have hj : (j 0).val < 3 := (j 0).isLt
  have split : ∀ r, ∑ c ∈ range 262144, elt (m (xLoc d)) (m (tLoc d)) (j 0).val r c
      = ∑ c ∈ range 98304, scAt (m (xLoc d)) (m (tLoc d)) (j 0).val r c
        + ∑ p ∈ range 5, ∑ b ∈ range 32768, tcAt (m (xLoc d)) (m (tLoc d)) (j 0).val r ((p + 3) * 32768 + b) := by
    intro r
    rw [sum_columns]
    refine congrArg₂ (· + ·) ?_ ?_
    · exact sum_congr rfl fun c hc => if_pos (mem_range.mp hc)
    · exact sum_congr rfl fun p _ => sum_congr rfl fun b _ => if_neg (by omega)
  simp only [split]
  rw [sum_add_distrib]
  have sc : Host.reduceAdd (F := Ideal) (V3 m d (dr main_v1) : FVec Ideal S3x512 .f32) (constant S_ .f32 0x00000000#32) reducesTo_S3x512_S3_d1 h_S_ j
      = ∑ r ∈ range 16, ∑ c ∈ range 98304, scAt (m (xLoc d)) (m (tLoc d)) (j 0).val r c := by
    rw [V3_v1, ← scOut_row _ _ _ hj]
    show Ideal.hostReduceAdd reducesTo_S3x512_S3_d1 _ _ j = _
    rw [Ideal.hostReduceAdd_single reducesTo_S3x512_S3_d1 (by decide)]
    rw [← Fin.sum_univ_eq_sum_range (fun k => scOut (F := Ideal) (m (xLoc d)) (m (tLoc d)) (ix1536 (512 * (j 0).val + k))) 512]
    have z : (constant S_ .f32 0x00000000#32 : FVec Ideal S_ .f32) (Shape.Idx.first h_S_) = 0 := Ideal.ofBits_zero_f32
    rw [z, zero_add]
    refine sum_congr rfl fun k _ => ?_
    have hk : k.val < 512 := k.isLt
    refine shapeCast_apply _ shapeCasts_S1536_S3x512 _ (ix1536 (512 * (j 0).val + k.val)) ?_
    rewrite [Shape.rowMajor_val_two, Shape.rowMajor_val_one]
    show (512 * (j 0).val + k.val) % 1536 = (j 0).val * 512 + k.val
    omega
  have tc := tcOut_at (fun c b => V2 m c (dr b)) d j
  rw [← V3_v2] at tc
  show Host.reduceAdd (F := Ideal) (V3 m d (dr main_v1) : FVec Ideal S3x512 .f32) (constant S_ .f32 0x00000000#32) reducesTo_S3x512_S3_d1 h_S_ j
    + (V3 m d (dr main_v2) : FVec Ideal S3 .f32) j = _
  rw [sc, tc]
  exact congrArg (_ + ·) (congrArg₂ (fun fX fT : S16x262144.Idx → EReal => ∑ r ∈ range 16, ∑ p ∈ range 5, ∑ b ∈ range 32768, tcAt fX fT (j 0).val r ((p + 3) * 32768 + b))
    (V2_arg0 m d) (V2_arg1 m d))

/-- Total `p` of the arrays. -/
def tot (fX fT : S16x262144.Idx → EReal) (p : ℕ) : EReal := ∑ r ∈ range 16, ∑ c ∈ range 262144, elt fX fT p r c

/-- The kernel's result: the balanced mean of the three totals. -/
theorem kernel_value : Vend m d (dr main_v23)
    = balance (fun _ => tot (m (xLoc d)) (m (tLoc d)) 2)
        (fun _ => Ideal.ofBits .f32 0x4A800000#32 - tot (m (xLoc d)) (m (tLoc d)) 2)
        (fun _ => tot (m (xLoc d)) (m (tLoc d)) 1)
        (fun _ => tot (m (xLoc d)) (m (tLoc d)) 0 - tot (m (xLoc d)) (m (tLoc d)) 1) := by
  have one : ∀ (v : FVec Ideal S3 .f32) (k : ℕ) (hk : k < 3) (h : S3.Slices ![k] S1) (i : S_.Idx),
      shapeCast S_ (extractStridedSlice S1 ![k] v h) shapeCasts_S1_S_ i = v (fun | 0 => ⟨k, hk⟩) := by
    intro v k hk h i
    refine (shapeCast_apply _ shapeCasts_S1_S_ i (fun | 0 => ⟨0, Nat.one_pos⟩) ?_).trans ?_
    · have h1 := (S1.rowMajor (fun | 0 => ⟨0, Nat.one_pos⟩)).isLt
      have h2 := (S_.rowMajor i).isLt
      have e1 : S1.numel = 1 := by decide
      have e2 : S_.numel = 1 := by decide
      omega
    · exact extractStridedSlice_apply _ _ _ _ _ fun a => by
        match a with
        | 0 => rfl
  have e0 : sBce (totals (V3 m d)) = fun _ => tot (m (xLoc d)) (m (tLoc d)) 0 :=
    funext fun i => (one _ 0 (by decide) slices_S3_S1_0 i).trans (totals_at m d _)
  have e1 : sTb (totals (V3 m d)) = fun _ => tot (m (xLoc d)) (m (tLoc d)) 1 :=
    funext fun i => (one _ 1 (by decide) slices_S3_S1_1 i).trans (totals_at m d _)
  have e2 : sT (totals (V3 m d)) = fun _ => tot (m (xLoc d)) (m (tLoc d)) 2 :=
    funext fun i => (one _ 2 (by decide) slices_S3_S1_2 i).trans (totals_at m d _)
  unfold Vend
  rw [post_value, e0, e1, e2]
  rfl

end Cert.Proof.Sums

end
-- ==== Proof.Analysis.lean ====
/-
  Real analysis behind the claims: the loss written with the logistic function and its logarithms, as one expression in
  log(1 + exp(-|x|)); and how far the quadratic fit is from log(1 + e) on [0, 1].
-/
module

public import Mathlib.Analysis.SpecialFunctions.Log.Basic
public import Mathlib.Analysis.SpecialFunctions.ExpDeriv
public import Mathlib.Analysis.Calculus.Deriv.MeanValue
public import Mathlib.Analysis.Complex.Exponential

@[expose] public section

noncomputable section

namespace Cert.Proof.Analysis

/-- log(1 + exp(-|x|)). -/
def sp (x : ℝ) : ℝ := Real.log (1 + Real.exp (-|x|))

/-- The fit's value at `e`. -/
def fit (e : ℝ) : ℝ := (-(16041045 / 67108864) * e + 3881113 / 4194304) * e + 7353063 / 2147483648

theorem sp_neg (x : ℝ) : sp (-x) = sp x := by unfold sp; rw [abs_neg]

/-- log(1 + exp x) is log(1 + exp(-|x|)) and the positive part of `x`. -/
theorem softplus (x : ℝ) : Real.log (1 + Real.exp x) = max x 0 + sp x := by
  unfold sp
  rcases le_total x 0 with h | h
  · rw [abs_of_nonpos h, neg_neg, max_eq_right h, zero_add]
  · rw [abs_of_nonneg h, max_eq_left h]
    have e : 1 + Real.exp x = Real.exp x * (1 + Real.exp (-x)) := by
      rw [mul_add, mul_one, ← Real.exp_add, add_neg_cancel, Real.exp_zero, add_comm]
    rw [e, Real.log_mul (Real.exp_pos x).ne' (by have := Real.exp_pos (-x); linarith), Real.log_exp]

/-- The logarithm of the logistic function. -/
theorem log_logistic (x : ℝ) : Real.log (1 / (1 + Real.exp (-x))) = -(max (-x) 0 + sp x) := by
  rw [one_div, Real.log_inv, softplus, sp_neg]

/-- One minus the logistic function. -/
theorem one_sub_logistic (x : ℝ) : 1 - 1 / (1 + Real.exp (-x)) = 1 / (1 + Real.exp x) := by
  have h1 : (1 + Real.exp (-x)) ≠ 0 := by have := Real.exp_pos (-x); linarith
  have h2 : (1 + Real.exp x) ≠ 0 := by have := Real.exp_pos x; linarith
  have h3 : Real.exp (-x) * Real.exp x = 1 := by rw [← Real.exp_add, neg_add_cancel, Real.exp_zero]
  rw [eq_div_iff h2, sub_mul, div_mul_eq_mul_div, sub_eq_iff_eq_add, ← sub_eq_iff_eq_add', eq_div_iff h1]
  linear_combination h3

theorem log_one_sub (x : ℝ) : Real.log (1 - 1 / (1 + Real.exp (-x))) = -(max x 0 + sp x) := by
  rw [one_sub_logistic, one_div, Real.log_inv, softplus]

/-- `sp` lies between zero and one. -/
theorem sp_bounds (x : ℝ) : 0 ≤ sp x ∧ sp x ≤ 1 := by
  have h0 := Real.exp_pos (-|x|)
  have h1 : Real.exp (-|x|) ≤ 1 := Real.exp_le_one_iff.mpr (by have := abs_nonneg x; linarith)
  constructor
  · exact Real.log_nonneg (by linarith)
  · have := Real.log_le_sub_one_of_pos (x := 1 + Real.exp (-|x|)) (by linarith)
    unfold sp; linarith

/-- The clamped, negated and weighted logarithms of reference.py's loss are the kernel's expression, while the clamp is not reached. -/
theorem bce_eq (x t : ℝ) (hx : |x| ≤ 99) :
    -(t * max (Real.log (1 / (1 + Real.exp (-x)))) (-100) + (1 - t) * max (Real.log (1 - 1 / (1 + Real.exp (-x)))) (-100))
      = sp x + max x 0 - t * x := by
  obtain ⟨s0, s1⟩ := sp_bounds x
  obtain ⟨l, u⟩ := abs_le.mp hx
  have m1 : max (-x) 0 ≤ 99 := max_le (by linarith) (by norm_num)
  have m2 : max x 0 ≤ 99 := max_le (by linarith) (by norm_num)
  have hm : max (-x) 0 = max x 0 - x := by
    rcases le_total x 0 with h | h
    · rw [max_eq_left (by linarith), max_eq_right h]; ring
    · rw [max_eq_right (by linarith), max_eq_left h]; ring
  rw [log_logistic, log_one_sub, max_eq_left (a := -(max (-x) 0 + sp x)) (by linarith), max_eq_left (a := -(max x 0 + sp x)) (by linarith), hm]
  ring

/-! ## The fit -/

/-- The fit's error at `e`. -/
def err (e : ℝ) : ℝ := fit e - Real.log (1 + e)

theorem log_a : |Real.log (39 / 32) - 0.197825| ≤ 0.00001 := by
  have h1 := Real.sum_le_exp_of_nonneg (x := 0.197835) (by norm_num) 6
  have h2 := Real.exp_bound' (x := 0.197815) (by norm_num) (by norm_num) (n := 6) (by norm_num)
  simp only [Finset.sum_range_succ, Finset.sum_range_zero] at h1 h2
  norm_num [Nat.factorial] at h1 h2
  rw [abs_le]
  constructor
  · have := (Real.le_log_iff_exp_le (x := 0.197815) (y := 39 / 32) (by norm_num)).mpr (by norm_num at h2 ⊢; linarith)
    linarith
  · have := (Real.log_le_iff_le_exp (x := 39 / 32) (y := 0.197835) (by norm_num)).mpr (by norm_num at h1 ⊢; linarith)
    linarith

theorem log_b : |Real.log (55 / 32) - 0.541597| ≤ 0.00001 := by
  have h1 := Real.sum_le_exp_of_nonneg (x := 0.541607) (by norm_num) 8
  have h2 := Real.exp_bound' (x := 0.541587) (by norm_num) (by norm_num) (n := 8) (by norm_num)
  simp only [Finset.sum_range_succ, Finset.sum_range_zero] at h1 h2
  norm_num [Nat.factorial] at h1 h2
  rw [abs_le]
  constructor
  · have := (Real.le_log_iff_exp_le (x := 0.541587) (y := 55 / 32) (by norm_num)).mpr (by norm_num at h2 ⊢; linarith)
    linarith
  · have := (Real.log_le_iff_le_exp (x := 55 / 32) (y := 0.541607) (by norm_num)).mpr (by norm_num at h1 ⊢; linarith)
    linarith

theorem log_c : |Real.log 2 - 0.693147| ≤ 0.00001 := by
  have h1 := Real.sum_le_exp_of_nonneg (x := 0.693157) (by norm_num) 9
  have h2 := Real.exp_bound' (x := 0.693137) (by norm_num) (by norm_num) (n := 9) (by norm_num)
  simp only [Finset.sum_range_succ, Finset.sum_range_zero] at h1 h2
  norm_num [Nat.factorial] at h1 h2
  rw [abs_le]
  constructor
  · have := (Real.le_log_iff_exp_le (x := 0.693137) (y := 2) (by norm_num)).mpr (by norm_num at h2 ⊢; linarith)
    linarith
  · have := (Real.log_le_iff_le_exp (x := 2) (y := 0.693157) (by norm_num)).mpr (by norm_num at h1 ⊢; linarith)
    linarith

/-- Near a point `m`, log(1 + e) is its tangent there to second order. -/
theorem log_near (m e : ℝ) (hm : 0 ≤ m) (he : 0 ≤ e) :
    Real.log (1 + e) ≤ Real.log (1 + m) + (e - m) / (1 + m) ∧ Real.log (1 + m) + (e - m) / (1 + e) ≤ Real.log (1 + e) := by
  have key : ∀ a b : ℝ, 0 ≤ a → 0 ≤ b → Real.log (1 + b) ≤ Real.log (1 + a) + (b - a) / (1 + a) := by
    intro a b ha hb
    have h := Real.log_le_sub_one_of_pos (x := (1 + b) / (1 + a)) (by positivity)
    rw [Real.log_div (by positivity) (by positivity)] at h
    have e : (b - a) / (1 + a) = (1 + b) / (1 + a) - 1 := by
      have : (1 + a) ≠ 0 := by positivity
      field_simp; ring
    rw [e]; linarith
  refine ⟨key m e hm he, ?_⟩
  have h := key e m he hm
  have e' : (m - e) / (1 + e) = -((e - m) / (1 + e)) := by ring
  linarith

theorem near_a (e : ℝ) (h0 : 0.2135 ≤ e) (h1 : e ≤ 0.224) : |err e| ≤ 0.00349 := by
  obtain ⟨u, l⟩ := log_near (7 / 32) e (by norm_num) (by linarith)
  have ha := log_a
  rw [show (1 : ℝ) + 7 / 32 = 39 / 32 by norm_num] at u l
  have hl : (e - 7 / 32) * (32 / 39) - 0.00002 ≤ (e - 7 / 32) / (1 + e) := by
    rw [le_div_iff₀ (by linarith)]; nlinarith
  have hu : (e - 7 / 32) / (39 / 32) = (e - 7 / 32) * (32 / 39) := by ring
  rw [hu] at u
  rw [abs_le] at ha ⊢
  unfold err fit
  constructor <;> nlinarith [ha.1, ha.2]

theorem near_b (e : ℝ) (h0 : 0.7135 ≤ e) (h1 : e ≤ 0.724) : |err e| ≤ 0.00349 := by
  obtain ⟨u, l⟩ := log_near (23 / 32) e (by norm_num) (by linarith)
  have ha := log_b
  rw [show (1 : ℝ) + 23 / 32 = 55 / 32 by norm_num] at u l
  have hl : (e - 23 / 32) * (32 / 55) - 0.00002 ≤ (e - 23 / 32) / (1 + e) := by
    rw [le_div_iff₀ (by linarith)]; nlinarith
  have hu : (e - 23 / 32) / (55 / 32) = (e - 23 / 32) * (32 / 55) := by ring
  rw [hu] at u
  rw [abs_le] at ha ⊢
  unfold err fit
  constructor <;> nlinarith [ha.1, ha.2]

/-- The fit's error at exp u - 1. -/
def errExp (u : ℝ) : ℝ := fit (Real.exp u - 1) - u

theorem errExp_log (e : ℝ) (he : 0 ≤ e) : errExp (Real.log (1 + e)) = err e := by
  unfold errExp err
  rw [Real.exp_log (by linarith), add_sub_cancel_left]

/-- The derivative of the fit's error at exp u - 1, as a quadratic in exp u. -/
theorem errExp_deriv (u : ℝ) :
    HasDerivAt errExp ((2 * -(16041045 / 67108864) * (Real.exp u - 1) + 3881113 / 4194304) * Real.exp u - 1) u := by
  have h0 : HasDerivAt (fun v => Real.exp v - 1) (Real.exp u) u := (Real.hasDerivAt_exp u).sub_const 1
  have h1 := ((h0.const_mul (-(16041045 / 67108864 : ℝ))).add_const (3881113 / 4194304)).mul h0
  have h2 := (h1.add_const (7353063 / 2147483648 : ℝ)).sub (hasDerivAt_id u)
  refine h2.congr_deriv ?_
  ring

theorem errExp_cont (a b : ℝ) : ContinuousOn errExp (Set.Icc a b) := fun e _ =>
  (errExp_deriv e).continuousAt.continuousWithinAt

theorem exp_mem {a b u : ℝ} (ha : 0 ≤ a) (hb : 0 ≤ b) (h : u ∈ Set.Icc (Real.log (1 + a)) (Real.log (1 + b))) :
    Real.exp u - 1 ∈ Set.Icc a b := by
  have h1 := Real.exp_le_exp.mpr h.1
  have h2 := Real.exp_le_exp.mpr h.2
  rw [Real.exp_log (by linarith)] at h1 h2
  exact ⟨by linarith, by linarith⟩

theorem log_mem {a b e : ℝ} (ha : 0 ≤ a) (h : e ∈ Set.Icc a b) : Real.log (1 + e) ∈ Set.Icc (Real.log (1 + a)) (Real.log (1 + b)) :=
  ⟨Real.log_le_log (by linarith) (by linarith [h.1]), Real.log_le_log (by linarith [h.1]) (by linarith [h.2])⟩

theorem err_anti (a b : ℝ) (ha : 0 ≤ a) (hb : 0 ≤ b)
    (h : ∀ e ∈ Set.Icc a b, (2 * -(16041045 / 67108864) * e + 3881113 / 4194304) * (1 + e) ≤ 1) : AntitoneOn err (Set.Icc a b) := by
  have key : AntitoneOn errExp (Set.Icc (Real.log (1 + a)) (Real.log (1 + b))) := by
    refine antitoneOn_of_deriv_nonpos (convex_Icc _ _) (errExp_cont _ _) ?_ ?_
    · intro u _; exact (errExp_deriv u).differentiableAt.differentiableWithinAt
    · intro u hu
      rw [interior_Icc] at hu
      have := h _ (exp_mem ha hb ⟨hu.1.le, hu.2.le⟩)
      rw [(errExp_deriv u).deriv, sub_nonpos]
      rwa [add_sub_cancel] at this
  intro e he f hf hef
  have := key (log_mem ha he) (log_mem ha hf) (Real.log_le_log (by linarith [he.1]) (by linarith))
  rwa [errExp_log _ (ha.trans he.1), errExp_log _ (ha.trans hf.1)] at this

theorem err_mono (a b : ℝ) (ha : 0 ≤ a) (hb : 0 ≤ b)
    (h : ∀ e ∈ Set.Icc a b, 1 ≤ (2 * -(16041045 / 67108864) * e + 3881113 / 4194304) * (1 + e)) : MonotoneOn err (Set.Icc a b) := by
  have key : MonotoneOn errExp (Set.Icc (Real.log (1 + a)) (Real.log (1 + b))) := by
    refine monotoneOn_of_deriv_nonneg (convex_Icc _ _) (errExp_cont _ _) ?_ ?_
    · intro u _; exact (errExp_deriv u).differentiableAt.differentiableWithinAt
    · intro u hu
      rw [interior_Icc] at hu
      have := h _ (exp_mem ha hb ⟨hu.1.le, hu.2.le⟩)
      rw [(errExp_deriv u).deriv, sub_nonneg]
      rwa [add_sub_cancel] at this
  intro e he f hf hef
  have := key (log_mem ha he) (log_mem ha hf) (Real.log_le_log (by linarith [he.1]) (by linarith))
  rwa [errExp_log _ (ha.trans he.1), errExp_log _ (ha.trans hf.1)] at this

/-- On [0, 1] the fit is within 0.00349 of log(1 + e). -/
theorem err_le (e : ℝ) (h0 : 0 ≤ e) (h1 : e ≤ 1) : |err e| ≤ 0.00349 := by
  have z : |err 0| ≤ 0.00349 := by
    unfold err fit; norm_num [abs_of_pos]
  have o : |err 1| ≤ 0.00349 := by
    have h2 := log_c
    rw [abs_le] at h2
    obtain ⟨h2, h3⟩ := h2
    unfold err fit
    rw [show (1 : ℝ) + 1 = 2 by norm_num, abs_le]
    constructor <;> norm_num <;> linarith
  have na := near_a; have nb := near_b
  rw [abs_le] at z o ⊢
  rcases le_total e 0.214 with c1 | c1
  · have m := err_anti 0 0.214 le_rfl (by norm_num) (fun e he => by nlinarith [he.1, he.2])
    have p := na 0.214 (by norm_num) (by norm_num)
    rw [abs_le] at p
    have q1 := m ⟨le_rfl, by norm_num⟩ ⟨h0, c1⟩ h0
    have q2 := m ⟨h0, c1⟩ ⟨by norm_num, le_rfl⟩ c1
    constructor <;> linarith
  rcases le_total e 0.2235 with c2 | c2
  · have p := na e (by linarith) (by linarith)
    rwa [abs_le] at p
  rcases le_total e 0.714 with c3 | c3
  · have m := err_mono 0.2235 0.714 (by norm_num) (by norm_num) (fun e he => by nlinarith [he.1, he.2])
    have p := na 0.2235 (by norm_num) (by norm_num)
    have p' := nb 0.714 (by norm_num) (by norm_num)
    rw [abs_le] at p p'
    have q1 := m ⟨le_rfl, by norm_num⟩ ⟨c2, c3⟩ c2
    have q2 := m ⟨c2, c3⟩ ⟨by norm_num, le_rfl⟩ c3
    constructor <;> linarith
  rcases le_total e 0.7235 with c4 | c4
  · have p := nb e (by linarith) (by linarith)
    rwa [abs_le] at p
  · have m := err_anti 0.7235 1 (by norm_num) (by norm_num) (fun e he => by nlinarith [he.1, he.2])
    have p := nb 0.7235 (by norm_num) (by norm_num)
    rw [abs_le] at p
    have q1 := m ⟨le_rfl, by norm_num⟩ ⟨c4, h1⟩ c4
    have q2 := m ⟨c4, h1⟩ ⟨by norm_num, le_rfl⟩ h1
    constructor <;> linarith

end Cert.Proof.Analysis

end
-- ==== Proof.Consts.lean ====
/-
  The literals of the programs, as reals.
-/
module

public import Idealize.ShloMosaic.PureOps.Ideal.Laws

@[expose] public section

namespace Cert.Proof.Consts

open Idealize.ShloMosaic

theorem one : Ideal.ofBits .f32 0x3F800000#32 = ((1 : ℝ) : EReal) := by
  simp [Ideal.ofBits, Ideal.ieee, -EReal.coe_mul]; norm_num
theorem half : Ideal.ofBits .f32 0x3F000000#32 = ((1 / 2 : ℝ) : EReal) := by
  simp [Ideal.ofBits, Ideal.ieee, -EReal.coe_mul]; norm_num
theorem neg_half : Ideal.ofBits .f32 0xBF000000#32 = ((-(1 / 2) : ℝ) : EReal) := by
  simp [Ideal.ofBits, Ideal.ieee, -EReal.coe_mul]; norm_num
/-- The clamp. -/
theorem neg_hundred : Ideal.ofBits .f32 0xC2C80000#32 = ((-100 : ℝ) : EReal) := by
  simp [Ideal.ofBits, Ideal.ieee, -EReal.coe_mul]; norm_num
theorem ninety_nine : Ideal.ofBits .f32 0x42C60000#32 = ((99 : ℝ) : EReal) := by
  simp [Ideal.ofBits, Ideal.ieee, -EReal.coe_mul]; norm_num
/-- The number of elements. -/
theorem count : Ideal.ofBits .f32 0x4A800000#32 = ((4194304 : ℝ) : EReal) := by
  simp [Ideal.ofBits, Ideal.ieee, -EReal.coe_mul]; norm_num
/-- The bound on the result's distance from reference.py's. -/
theorem bound : Ideal.ofBits .f32 0x3B656042#32 = ((7516193 / 2147483648 : ℝ) : EReal) := by
  simp [Ideal.ofBits, Ideal.ieee, -EReal.coe_mul]; norm_num
/-- The fit's coefficients. -/
theorem c0 : Ideal.ofBits .f32 0x3B6065CE#32 = ((7353063 / 2147483648 : ℝ) : EReal) := by
  simp [Ideal.ofBits, Ideal.ieee, -EReal.coe_mul]; norm_num
theorem c1 : Ideal.ofBits .f32 0x3F6CE264#32 = ((3881113 / 4194304 : ℝ) : EReal) := by
  simp [Ideal.ofBits, Ideal.ieee, -EReal.coe_mul]; norm_num
theorem c2 : Ideal.ofBits .f32 0xBE74C455#32 = ((-(16041045 / 67108864) : ℝ) : EReal) := by
  simp [Ideal.ofBits, Ideal.ieee, -EReal.coe_mul]; norm_num
theorem c2_pos : Ideal.ofBits .f32 0x3E74C455#32 = ((16041045 / 67108864 : ℝ) : EReal) := by
  simp [Ideal.ofBits, Ideal.ieee, -EReal.coe_mul]; norm_num
theorem zero : Ideal.ofBits .f32 0x00000000#32 = ((0 : ℝ) : EReal) := Ideal.ofBits_zero_f32

end Cert.Proof.Consts
-- ==== Proof.Elements.lean ====
/-
  The programs' scalar expressions over the extended reals, at finite arguments: each is a real expression.
-/
module

public import proofs.«01_k».proof.Proof.Analysis
public import proofs.«01_k».proof.Proof.Consts
public import proofs.«01_k».proof.Proof.ScSums

@[expose] public section

noncomputable section

namespace Cert.Proof.Elements

open Idealize.ShloMosaic Cert.Proof.Analysis Cert.Proof.Sums

theorem max_coe (a b : ℝ) : max (a : EReal) (b : EReal) = ((max a b : ℝ) : EReal) :=
  (EReal.coe_strictMono.monotone.map_max).symm

theorem abs_coe (a : ℝ) : max (a : EReal) (-(a : EReal)) = ((|a| : ℝ) : EReal) := by
  rw [← EReal.coe_neg, max_coe]; rfl

theorem log_pos_coe (a : ℝ) (h : 0 < a) : Ideal.log (a : EReal) = ((Real.log a : ℝ) : EReal) := by
  rw [Ideal.log_coe, if_neg (not_le.mpr h)]

theorem log1p_coe (a : ℝ) (h : 0 < 1 + a) : Ideal.log1p (a : EReal) = ((Real.log (1 + a) : ℝ) : EReal) := by
  rw [← log_pos_coe _ h, EReal.coe_add]; rfl

theorem div_real (a b : ℝ) (h : b ≠ 0) : Ideal.div (a : EReal) (b : EReal) = ((a / b : ℝ) : EReal) := by
  rw [Ideal.div_coe h, ← EReal.coe_mul, mul_one_div]

/-- The SparseCore's loss. -/
theorem scLoss_coe (x t : ℝ) : scLoss (x : EReal) (t : EReal) = ((fit (Real.exp (-|x|)) + max x 0 - t * x : ℝ) : EReal) := by
  unfold scLoss fit
  rw [abs_coe, Consts.zero, Consts.c0, Consts.c1, Consts.c2, max_coe, ← EReal.coe_sub, zero_sub, Ideal.exp_coe]
  simp only [← EReal.coe_mul, ← EReal.coe_add, ← EReal.coe_sub]

/-- The TensorCore's loss. -/
theorem tcLoss_coe (x t : ℝ) : tcLoss (x : EReal) (t : EReal) = ((sp x + max x 0 - t * x : ℝ) : EReal) := by
  have h := Real.exp_pos (-|x|)
  unfold tcLoss sp
  rw [abs_coe, Consts.zero, max_coe, ← EReal.coe_sub, zero_sub, Ideal.exp_coe, log1p_coe _ (by linarith)]
  simp only [← EReal.coe_mul, ← EReal.coe_add, ← EReal.coe_sub]

/-- reference.py's loss. -/
theorem bce_coe (x t : ℝ) (hx : |x| ≤ 99) :
    -((t : EReal) * max (Ideal.log (Ideal.div (Ideal.ofBits .f32 0x3F800000#32) (Ideal.ofBits .f32 0x3F800000#32 + Ideal.exp (-(x : EReal))))) (Ideal.ofBits .f32 0xC2C80000#32)
      + (Ideal.ofBits .f32 0x3F800000#32 - (t : EReal)) * max (Ideal.log (Ideal.ofBits .f32 0x3F800000#32 - Ideal.div (Ideal.ofBits .f32 0x3F800000#32) (Ideal.ofBits .f32 0x3F800000#32 + Ideal.exp (-(x : EReal)))))
          (Ideal.ofBits .f32 0xC2C80000#32))
      = ((sp x + max x 0 - t * x : ℝ) : EReal) := by
  have h := Real.exp_pos (-x)
  have h' := Real.exp_pos x
  have p1 : 0 < 1 / (1 + Real.exp (-x)) := by positivity
  have p2 : 0 < 1 - 1 / (1 + Real.exp (-x)) := by rw [one_sub_logistic]; positivity
  rw [Consts.one, Consts.neg_hundred, ← EReal.coe_neg, Ideal.exp_coe, ← EReal.coe_add, div_real _ _ (by linarith), ← EReal.coe_sub 1 (1 / (1 + Real.exp (-x))),
    log_pos_coe _ p1, log_pos_coe _ p2, max_coe, max_coe, ← bce_eq x t hx]
  simp only [← EReal.coe_mul, ← EReal.coe_add, ← EReal.coe_sub, ← EReal.coe_neg]

/-- The fit's error as `softplus_error` writes it. -/
theorem err_coe (x : ℝ) :
    (Ideal.ofBits .f32 0x3B6065CE#32 + Ideal.ofBits .f32 0x3F6CE264#32 * Ideal.exp (-(max (x : EReal) (-(x : EReal))))
        - Ideal.ofBits .f32 0x3E74C455#32 * (Ideal.exp (-(max (x : EReal) (-(x : EReal)))) * Ideal.exp (-(max (x : EReal) (-(x : EReal))))))
      - Ideal.log1p (Ideal.exp (-(max (x : EReal) (-(x : EReal)))))
      = ((fit (Real.exp (-|x|)) - sp x : ℝ) : EReal) := by
  have h := Real.exp_pos (-|x|)
  rw [abs_coe, Consts.c0, Consts.c1, Consts.c2_pos, ← EReal.coe_neg, Ideal.exp_coe, log1p_coe _ (by linarith)]
  simp only [← EReal.coe_mul, ← EReal.coe_add, ← EReal.coe_sub]
  unfold fit sp
  congr 1
  ring

/-! ## Masks -/

/-- Whether a label counts as positive, as reference.py asks it. -/
abbrev isPos (t : EReal) : BitVec 1 :=
  IntOp.andi (Ideal.cmp .ogt t (Ideal.ofBits .f32 0xBF000000#32)) (Ideal.cmp .ogt t (Ideal.ofBits .f32 0x3F000000#32))
/-- Whether a label counts as negative, as reference.py asks it. -/
abbrev isNeg (t : EReal) : BitVec 1 :=
  IntOp.andi (Ideal.cmp .ogt t (Ideal.ofBits .f32 0xBF000000#32)) (Ideal.cmp .olt t (Ideal.ofBits .f32 0x3F000000#32))

theorem gt_real (a b : ℝ) : Ideal.cmp .ogt (a : EReal) (b : EReal) = BitVec.ofBool (decide (b < a)) := by
  unfold Ideal.cmp; simp only [EReal.coe_lt_coe_iff]
theorem lt_real (a b : ℝ) : Ideal.cmp .olt (a : EReal) (b : EReal) = BitVec.ofBool (decide (a < b)) := by
  unfold Ideal.cmp; simp only [EReal.coe_lt_coe_iff]

theorem isPos_one : isPos ((1 : ℝ) : EReal) = 1#1 := by
  unfold isPos
  rw [Consts.half, Consts.neg_half, gt_real, gt_real, decide_eq_true (by norm_num), decide_eq_true (by norm_num)]; rfl
theorem isPos_zero : isPos ((0 : ℝ) : EReal) = 0#1 := by
  unfold isPos
  rw [Consts.half, Consts.neg_half, gt_real, gt_real, decide_eq_true (by norm_num), decide_eq_false (by norm_num)]; rfl
theorem isNeg_one : isNeg ((1 : ℝ) : EReal) = 0#1 := by
  unfold isNeg
  rw [Consts.half, Consts.neg_half, gt_real, lt_real, decide_eq_true (by norm_num), decide_eq_false (by norm_num)]; rfl
theorem isNeg_zero : isNeg ((0 : ℝ) : EReal) = 1#1 := by
  unfold isNeg
  rw [Consts.half, Consts.neg_half, gt_real, lt_real, decide_eq_true (by norm_num), decide_eq_true (by norm_num)]; rfl

/-- A label's mask as a number, and a loss under it. -/
theorem pos_count (t : ℝ) (ht : t = 0 ∨ t = 1) : FloatOps.uitofp (F := Ideal) .f32 (isPos (t : EReal)) = ((t : ℝ) : EReal) := by
  rcases ht with rfl | rfl
  · rw [isPos_zero]; show (((0#1).toNat : ℝ) : EReal) = _; norm_num
  · rw [isPos_one]; show (((1#1).toNat : ℝ) : EReal) = _; norm_num
theorem neg_count (t : ℝ) (ht : t = 0 ∨ t = 1) : FloatOps.uitofp (F := Ideal) .f32 (isNeg (t : EReal)) = ((1 - t : ℝ) : EReal) := by
  rcases ht with rfl | rfl
  · rw [isNeg_zero]; show (((1#1).toNat : ℝ) : EReal) = _; norm_num
  · rw [isNeg_one]; show (((0#1).toNat : ℝ) : EReal) = _; norm_num
theorem pos_loss (t b : ℝ) (ht : t = 0 ∨ t = 1) :
    Scalar.select (isPos (t : EReal)) (b : EReal) (Ideal.ofBits .f32 0x00000000#32) = ((t * b : ℝ) : EReal) := by
  rw [Consts.zero]
  rcases ht with rfl | rfl
  · rw [isPos_zero, zero_mul]; rfl
  · rw [isPos_one, one_mul]; rfl
theorem neg_loss (t b : ℝ) (ht : t = 0 ∨ t = 1) :
    Scalar.select (isNeg (t : EReal)) (b : EReal) (Ideal.ofBits .f32 0x00000000#32) = (((1 - t) * b : ℝ) : EReal) := by
  rw [Consts.zero]
  rcases ht with rfl | rfl
  · rw [isNeg_zero, sub_zero, one_mul]; rfl
  · rw [isNeg_one, sub_self, zero_mul]; rfl

end Cert.Proof.Elements

end
-- ==== Proof.Balance.lean ====
/-
  The balanced mean at finite arguments, as a real expression; how far it moves when the two sums move; and sums of reals.
-/
module

public import proofs.«01_k».proof.Proof.KernelValue
public import proofs.«01_k».proof.Proof.Elements

@[expose] public section

noncomputable section

namespace Cert.Proof.Balance

open Idealize.ShloMosaic Cert.KernelIdeal Cert.Proof.Sums Cert.Proof.Elements
open Finset

/-- One side of the balanced mean: the side's sum over its count, halved, or zero where the side is empty. -/
def side (c s : ℝ) : ℝ := (if 0 < c then s / max c 1 else 0) * (1 / 2)

theorem side_coe (c s : ℝ) :
    Scalar.select (Ideal.cmp .ogt (c : EReal) (Ideal.ofBits .f32 0x00000000#32)) (Ideal.div (s : EReal) (max (c : EReal) (Ideal.ofBits .f32 0x3F800000#32)))
        (Ideal.ofBits .f32 0x00000000#32) * Ideal.ofBits .f32 0x3F000000#32 = ((side c s : ℝ) : EReal) := by
  have p : max c 1 ≠ 0 := by have := le_max_right c 1; linarith
  rw [Consts.zero, Consts.one, Consts.half, gt_real, max_coe, div_real _ _ p]
  unfold side
  by_cases h : 0 < c
  · rw [decide_eq_true h, if_pos h, EReal.coe_mul]; rfl
  · rw [decide_eq_false h, if_neg h, EReal.coe_mul]; rfl

/-- The balanced mean of finite counts and sums. -/
theorem balance_coe (pc nc ps ns : ℝ) :
    balance (fun _ => (pc : EReal)) (fun _ => (nc : EReal)) (fun _ => (ps : EReal)) (fun _ => (ns : EReal))
      = fun _ => ((side pc ps + side nc ns : ℝ) : EReal) := by
  funext i
  rw [EReal.coe_add, ← side_coe pc ps, ← side_coe nc ns]
  rfl

/-- Moving a side's sum by at most `δ` for each of its elements moves the side by at most half of `δ`. -/
theorem side_near (c s s' δ : ℝ) (hδ : 0 ≤ δ) (h : |s - s'| ≤ δ * c) : |side c s - side c s'| ≤ δ * (1 / 2) := by
  unfold side
  by_cases hc : 0 < c
  · have m1 : c ≤ max c 1 := le_max_left _ _
    have m0 : 0 < max c 1 := lt_of_lt_of_le hc m1
    rw [if_pos hc, if_pos hc, ← sub_mul, ← sub_div, abs_mul, abs_div, abs_of_pos m0, abs_of_pos (by norm_num : (0 : ℝ) < 1 / 2)]
    refine mul_le_mul_of_nonneg_right ?_ (by norm_num)
    rw [div_le_iff₀ m0]
    exact h.trans (mul_le_mul_of_nonneg_left m1 hδ)
  · rw [if_neg hc, if_neg hc, sub_self, abs_zero]
    positivity

/-- A double sum of reals, in the extended reals. -/
theorem sum2_coe (f : ℕ → ℕ → ℝ) (a b : ℕ) :
    ∑ r ∈ range a, ∑ c ∈ range b, ((f r c : ℝ) : EReal) = ((∑ r ∈ range a, ∑ c ∈ range b, f r c : ℝ) : EReal) := by
  have one : ∀ (n : ℕ) (g : ℕ → ℝ), ∑ c ∈ range n, ((g c : ℝ) : EReal) = ((∑ c ∈ range n, g c : ℝ) : EReal) := by
    intro n g
    induction n with
    | zero => simp
    | succ n ih => rw [sum_range_succ, ih, sum_range_succ, EReal.coe_add]
  simp only [one]

/-- The sum over a flat array's indices, row by row of the matrix it was reshaped from. -/
theorem sum_flat {M : Type*} [AddCommMonoid M] (g : (⟨1, ![4194304]⟩ : Shape).Idx → M) (G : ℕ → ℕ → M)
    (e : ∀ i : (⟨1, ![4194304]⟩ : Shape).Idx, g i = G ((i 0).val / 262144) ((i 0).val % 262144)) :
    ∑ i, g i = ∑ r ∈ range 16, ∑ c ∈ range 262144, G r c := by
  have h1 : ∑ i, g i = ∑ k : Fin 4194304, G (k.val / 262144) (k.val % 262144) :=
    Fintype.sum_equiv (Equiv.piUnique fun k : Fin 1 => Fin ((⟨1, ![4194304]⟩ : Shape).size k)) _ _ fun i => e i
  rw [h1, Fin.sum_univ_eq_sum_range (fun k => G (k / 262144) (k % 262144)) 4194304]
  have e2 : (4194304 : ℕ) = 16 * 262144 := by norm_num
  have e3 : ∀ r c : ℕ, c < 262144 → (r * 262144 + c) / 262144 = r ∧ (r * 262144 + c) % 262144 = c := fun r c h => by omega
  generalize 262144 = n at e2 e3 ⊢
  generalize 4194304 = N at e2 ⊢
  subst e2
  rw [Sums.sum_mul]
  refine sum_congr rfl fun r _ => sum_congr rfl fun c hc => ?_
  rw [(e3 r c (mem_range.mp hc)).1, (e3 r c (mem_range.mp hc)).2]

end Cert.Proof.Balance

end
-- ==== Proof.RefValue.lean ====
/-
  The reference's result, and reference.py's, over the extended reals under the precondition: the balanced mean of sums of
  reals.
-/
module

public import proofs.«01_k».proof.Proof.Balance
public import proofs.«01_k».proof.Proof.Gen.ReferenceIdeal.Read
public import proofs.«01_k».proof.Proof.Gen.Pre_labelled
public import Idealize.ShloMosaic.Lib.ReduceAll

@[expose] public section

noncomputable section

namespace Cert.Proof.RefValue

open Idealize.ShloMosaic Cert.Proof.Analysis Cert.Proof.Sums Cert.Proof.Elements Cert.Proof.Balance Cert.Proof.Run
open Cert.ReferenceIdeal Cert.ReferenceIdeal.Gen Cert.ReferenceIdeal.Read
open Finset

/-! ## The precondition -/

/-- What the precondition says of the arrays: the logits are reals of size at most 99, the labels are 0 or 1. -/
structure Labelled (fX fT : S16x262144.Idx → EReal) : Prop where
  logit : ∀ i, fX i = ((fX i).toReal : EReal) ∧ |(fX i).toReal| ≤ 99
  label : ∀ i, fT i = ((fT i).toReal : EReal) ∧ ((fT i).toReal = 0 ∨ (fT i).toReal = 1)

instance : Subsingleton Cert.Pre_labelled.S_.Idx := ⟨fun _ _ => funext fun a => a.elim0⟩

theorem ofBool_one {b : Bool} (h : BitVec.ofBool b = 1#1) : b = true := by
  cases b
  · exact absurd h (by decide)
  · rfl

theorem labelled_of (fX fT : S16x262144.Idx → EReal) (h : Cert.Pre_labelled.fn (F := Ideal) fX fT = fun _ => 1#1) : Labelled fX fT := by
  have h0 := congrFun h (fun a => a.elim0)
  obtain ⟨h1, h2⟩ := IntOp.andi_eq_one.1 h0
  constructor
  · intro i
    have e := Host.reduce_andi_all _ _ _ _ _ h2 i
    have e' : max (fX i) (-(fX i)) ≤ Ideal.ofBits .f32 0x42C60000#32 := of_decide_eq_true (ofBool_one e)
    rw [Consts.ninety_nine, max_le_iff] at e'
    obtain ⟨u, l⟩ := e'
    generalize fX i = y at u l
    induction y using EReal.rec with
    | bot => exact absurd l (by simp)
    | top => exact absurd u (by simp)
    | coe y =>
      refine ⟨rfl, ?_⟩
      rw [EReal.toReal_coe, abs_le]
      rw [← EReal.coe_neg] at l
      have := EReal.coe_le_coe_iff.mp u
      have := EReal.coe_le_coe_iff.mp l
      constructor <;> linarith
  · intro i
    have e := Host.reduce_andi_all _ _ _ _ _ h1 i
    have e' : BitVec.ofBool (decide (fT i = Ideal.ofBits .f32 0x00000000#32)) ||| BitVec.ofBool (decide (fT i = Ideal.ofBits .f32 0x3F800000#32)) = 1#1 := e
    rw [Consts.zero, Consts.one] at e'
    by_cases a : fT i = ((0 : ℝ) : EReal)
    · rw [a]; exact ⟨rfl, Or.inl rfl⟩
    by_cases b : fT i = ((1 : ℝ) : EReal)
    · rw [b]; exact ⟨rfl, Or.inr rfl⟩
    rw [decide_eq_false a, decide_eq_false b] at e'
    exact absurd e' (by decide)

/-- The logit and the label at row `r`, column `c`, as reals. -/
def xr (fX : S16x262144.Idx → EReal) (r c : ℕ) : ℝ := (fX (ix2 r c)).toReal
/-- The loss at row `r`, column `c`, as reference.py takes it. -/
def bce (fX fT : S16x262144.Idx → EReal) (r c : ℕ) : ℝ := sp (xr fX r c) + max (xr fX r c) 0 - xr fT r c * xr fX r c
/-- The fit's error at row `r`, column `c`: nothing from column 98304 on. -/
def fitErr (fX : S16x262144.Idx → EReal) (r c : ℕ) : ℝ := if c < 98304 then fit (Real.exp (-|xr fX r c|)) - sp (xr fX r c) else 0

variable (fX fT : S16x262144.Idx → EReal)

/-! ## One element -/

theorem flat_index (i : S4194304.Idx) : idx_main_v6 i = ix2 ((i 0).val / 262144) ((i 0).val % 262144) := by
  have h0 : (i 0).val < 4194304 := (i 0).isLt
  funext a
  match a with
  | 0 => exact Fin.ext (show (i 0).val / 262144 = (i 0).val / 262144 % 16 by omega)
  | 1 => exact Fin.ext (show (i 0).val % 262144 = (i 0).val % 262144 % 262144 by omega)

variable {fX fT} (h : Labelled fX fT)
include h

/-- The reference's elementwise loss, before the fit's error is added. -/
theorem bce_at (i : S4194304.Idx) :
    val_main_v21 (F := Ideal) fX fT i = ((bce fX fT ((i 0).val / 262144) ((i 0).val % 262144) : ℝ) : EReal) := by
  have hx := h.logit (ix2 ((i 0).val / 262144) ((i 0).val % 262144))
  have ht := h.label (ix2 ((i 0).val / 262144) ((i 0).val % 262144))
  refine Eq.trans ?_ (bce_coe (xr fX _ _) (xr fT _ _) hx.2)
  unfold xr
  rw [← hx.1, ← ht.1, ← flat_index i]
  simp only [val_main_v21_apply, val_main_v20_apply, val_main_v19_apply, val_main_v18_apply, val_main_v17_apply, val_main_cst_4_apply, val_main_v16_apply,
    val_main_v15_apply, val_main_v14_apply, val_main_cst_3_apply, val_main_v13_apply, val_main_v12_apply, val_main_v11_apply, val_main_cst_2_apply,
    val_main_v10_apply, val_main_v9_apply, val_main_cst_1_apply, val_main_v8_apply, val_main_v7_apply, val_main_v6_apply, val_main_v5_apply, val_main_v4_apply,
    val_main_cst_0_apply, val_main_v3_apply, val_main_v2_apply, val_main_cst_apply, val_main_v1_apply, val_main_v0_apply]
  rfl

/-- The fit's error at an element. -/
theorem fitErr_at (i : S4194304.Idx) :
    val_main_v39 (F := Ideal) fX i = ((fitErr fX ((i 0).val / 262144) ((i 0).val % 262144) : ℝ) : EReal) := by
  have hx := h.logit (ix2 ((i 0).val / 262144) ((i 0).val % 262144))
  have hlt : (i 0).val % 262144 < 262144 := Nat.mod_lt _ (by decide)
  have sel : val_main_v35 (F := Ideal) (idx_main_v39 i) = if (i 0).val % 262144 < 98304 then 1#1 else 0#1 := by
    rw [val_main_v35_apply, val_main_v33_apply, val_main_v34_apply, val_main_c_apply]
    show BitVec.ofBool ((BitVec.ofNat 32 ((i 0).val % 262144)).slt 98304#32) = _
    rw [BitVec.slt_eq_decide, BitVec.toInt_eq_toNat_of_lt (by rw [BitVec.toNat_ofNat]; omega), BitVec.toNat_ofNat, Nat.mod_eq_of_lt (by omega)]
    by_cases q : (i 0).val % 262144 < 98304
    · rw [if_pos q, decide_eq_true]; rfl
      show ((_ : ℕ) : ℤ) < 98304
      omega
    · rw [if_neg q, decide_eq_false]; rfl
      show ¬ ((_ : ℕ) : ℤ) < 98304
      omega
  have val : val_main_v37 (F := Ideal) fX (idx_main_v39 i)
      = ((fit (Real.exp (-|xr fX ((i 0).val / 262144) ((i 0).val % 262144)|)) - sp (xr fX ((i 0).val / 262144) ((i 0).val % 262144)) : ℝ) : EReal) := by
    rw [← err_coe]
    unfold xr
    rw [← hx.1, ← flat_index i]
    simp only [val_main_v37_apply, val_main_v36_apply, val_main_v32_apply, val_main_v31_apply, val_main_v30_apply, val_main_cst_7_apply, val_main_v29_apply,
      val_main_v28_apply, val_main_v27_apply, val_main_cst_6_apply, val_main_v26_apply, val_main_v25_apply, val_main_cst_5_apply, val_main_v24_apply,
      val_main_v23_apply, val_main_v22_apply]
    rfl
  rw [val_main_v39_apply, val_main_v38_apply, sel, val]
  unfold fitErr
  by_cases q : (i 0).val % 262144 < 98304
  · rw [if_pos q, if_pos q]; rfl
  · rw [if_neg q, if_neg q]
    rw [val_main_call0_v1_apply, val_main_call0_v0_apply, val_main_cst_8_apply]
    exact Consts.zero

/-- The reference's elementwise loss. -/
theorem loss_at (i : S4194304.Idx) : val_main_v40 (F := Ideal) fX fT i
    = ((bce fX fT ((i 0).val / 262144) ((i 0).val % 262144) + fitErr fX ((i 0).val / 262144) ((i 0).val % 262144) : ℝ) : EReal) := by
  rw [val_main_v40_apply, bce_at h, fitErr_at h]
  rfl

/-- The masks of an element. -/
theorem pos_at (i : S4194304.Idx) : val_main_v46 (F := Ideal) fT i = isPos ((xr fT ((i 0).val / 262144) ((i 0).val % 262144) : ℝ) : EReal) := by
  have ht := h.label (ix2 ((i 0).val / 262144) ((i 0).val % 262144))
  unfold xr
  rw [← ht.1, ← flat_index i]
  simp only [val_main_v46_apply, val_main_v45_apply, val_main_v44_apply, val_main_cst_10_apply, val_main_v43_apply, val_main_v42_apply, val_main_cst_9_apply, val_main_v41_apply]
  rfl
theorem neg_at (i : S4194304.Idx) : val_main_v49 (F := Ideal) fT i = isNeg ((xr fT ((i 0).val / 262144) ((i 0).val % 262144) : ℝ) : EReal) := by
  have ht := h.label (ix2 ((i 0).val / 262144) ((i 0).val % 262144))
  unfold xr
  rw [← ht.1, ← flat_index i]
  simp only [val_main_v49_apply, val_main_v48_apply, val_main_v47_apply, val_main_cst_11_apply, val_main_v43_apply, val_main_v42_apply, val_main_cst_9_apply, val_main_v41_apply]
  rfl

end Cert.Proof.RefValue

end
-- ==== Proof.Equation.lean ====
/-
  Under the precondition the kernel's result is the reference's, and lies within the bound of reference.py's.
-/
module

public import proofs.«01_k».proof.Proof.RefValue
public import proofs.«01_k».proof.Proof.Gen.Post_near_problem

@[expose] public section

noncomputable section

namespace Cert.Proof.Equation

open Idealize.ShloMosaic Cert.Proof.Analysis Cert.Proof.Sums Cert.Proof.Elements Cert.Proof.Balance Cert.Proof.Run Cert.Proof.RefValue
open Cert.ReferenceIdeal Cert.ReferenceIdeal.Gen Cert.ReferenceIdeal.Read
open Finset

/-! ## The balanced mean of an elementwise loss -/

/-- reference.py's balanced mean, of an elementwise loss `b`. -/
def balR (fT : FVec Ideal S16x262144 .f32) (b : FVec Ideal S4194304 .f32) : FVec Ideal S_ .f32 :=
  balance (val_main_v51 (F := Ideal) fT) (val_main_v53 (F := Ideal) fT)
    (Host.reduceAdd (select (val_main_v46 (F := Ideal) fT) b (val_main_call1_v1 (F := Ideal))) (val_main_cst_15 (F := Ideal)) reducesTo_S4194304_S_d0 h_S_)
    (Host.reduceAdd (select (val_main_v49 (F := Ideal) fT) b (val_main_call2_v1 (F := Ideal))) (val_main_cst_17 (F := Ideal)) reducesTo_S4194304_S_d0 h_S_)

/-- The reference's result is the balanced mean of its loss. -/
theorem reference_balR (fX fT : FVec Ideal S16x262144 .f32) :
    val_main_v68 (F := Ideal) fX fT = balR fT (val_main_v40 (F := Ideal) fX fT) := rfl

/-- The postcondition compares with the balanced mean of reference.py's loss. -/
theorem post_balR (fX fT : FVec Ideal S16x262144 .f32) (y : FVec Ideal S_ .f32) :
    Cert.Post_near_problem.fn (F := Ideal) fX fT y
      = cmpf .ole (Host.absf (subf y (balR fT (val_main_v21 (F := Ideal) fX fT)))) (constant S_ .f32 0x3B656042#32) := rfl

/-- Twice summed over the arrays' rows and columns. -/
def all (f : ℕ → ℕ → ℝ) : ℝ := ∑ r ∈ range 16, ∑ c ∈ range 262144, f r c

/-- The sum of a flat array of reals, from zero. -/
theorem reduce_all (g : FVec Ideal S4194304 .f32) (z : FVec Ideal S_ .f32) (hz : z (Shape.Idx.first h_S_) = Ideal.ofBits .f32 0x00000000#32) (G : ℕ → ℕ → ℝ)
    (e : ∀ i : S4194304.Idx, g i = ((G ((i 0).val / 262144) ((i 0).val % 262144) : ℝ) : EReal)) :
    Host.reduceAdd g z reducesTo_S4194304_S_d0 h_S_ = fun _ => ((all G : ℝ) : EReal) := by
  funext i
  have s := sum_flat g (fun r c => ((G r c : ℝ) : EReal)) e
  rw [sum2_coe] at s
  refine (Ideal.hostReduceAdd_total reducesTo_S4194304_S_d0 (fun b => b.elim0) g (z (Shape.Idx.first h_S_)) i).trans ?_
  rw [hz, Consts.zero, s, EReal.coe_zero, zero_add]
  rfl

section
variable {fX fT : S16x262144.Idx → EReal} (h : Labelled fX fT)
include h

/-- The label at row `r`, column `c` is 0 or 1. -/
theorem xr_label (r c : ℕ) : xr fT r c = 0 ∨ xr fT r c = 1 := (h.label (ix2 r c)).2

/-- The balanced mean of a loss of reals. -/
theorem balR_coe (b : FVec Ideal S4194304 .f32) (B : ℕ → ℕ → ℝ)
    (e : ∀ i : S4194304.Idx, b i = ((B ((i 0).val / 262144) ((i 0).val % 262144) : ℝ) : EReal)) :
    balR fT b = fun _ => ((side (all (xr fT)) (all fun r c => xr fT r c * B r c)
      + side (all fun r c => 1 - xr fT r c) (all fun r c => (1 - xr fT r c) * B r c) : ℝ) : EReal) := by
  rw [← balance_coe]
  unfold balR
  refine congr (congr (congr (congrArg balance ?_) ?_) ?_) ?_
  · refine reduce_all _ _ rfl (xr fT) fun i => ?_
    rw [val_main_v50_apply, pos_at h]
    exact pos_count _ (xr_label h _ _)
  · refine reduce_all _ _ rfl (fun r c => 1 - xr fT r c) fun i => ?_
    rw [val_main_v52_apply, neg_at h]
    exact neg_count _ (xr_label h _ _)
  · refine reduce_all _ _ rfl (fun r c => xr fT r c * B r c) fun i => ?_
    show Scalar.select (val_main_v46 (F := Ideal) fT i) (b i) (val_main_call1_v1 (F := Ideal) i) = _
    rw [pos_at h, e i]
    exact pos_loss _ _ (xr_label h _ _)
  · refine reduce_all _ _ rfl (fun r c => (1 - xr fT r c) * B r c) fun i => ?_
    show Scalar.select (val_main_v49 (F := Ideal) fT i) (b i) (val_main_call2_v1 (F := Ideal) i) = _
    rw [neg_at h, e i]
    exact neg_loss _ _ (xr_label h _ _)

/-! ## The kernel's totals -/

/-- What the kernel adds up at row `r`, column `c`: the loss, with the fit's error on the columns that take the fit. -/
theorem elt_loss (r c : ℕ) : elt fX fT 0 r c = ((bce fX fT r c + fitErr fX r c : ℝ) : EReal) := by
  have hx := (h.logit (ix2 r c)).1
  have ht := (h.label (ix2 r c)).1
  unfold elt fitErr bce
  by_cases q : c < 98304
  · rw [if_pos q, if_pos q]
    show scLoss (fX (ix2 r c)) (fT (ix2 r c)) = _
    rw [hx, ht, scLoss_coe]
    refine congrArg _ ?_
    unfold xr
    ring
  · rw [if_neg q, if_neg q]
    show tcLoss (fX (ix2 r c)) (fT (ix2 r c)) = _
    rw [hx, ht, tcLoss_coe]
    refine congrArg _ ?_
    unfold xr
    ring

theorem elt_label (r c : ℕ) : elt fX fT 2 r c = ((xr fT r c : ℝ) : EReal) := by
  have ht := (h.label (ix2 r c)).1
  unfold elt
  by_cases q : c < 98304
  · rw [if_pos q]; exact ht
  · rw [if_neg q]; exact ht

theorem elt_label_loss (r c : ℕ) : elt fX fT 1 r c = ((xr fT r c * (bce fX fT r c + fitErr fX r c) : ℝ) : EReal) := by
  have ht := (h.label (ix2 r c)).1
  rw [EReal.coe_mul, ← elt_loss h]
  unfold elt
  by_cases q : c < 98304
  · rw [if_pos q, if_pos q]
    exact congrArg (· * scLoss (fX (ix2 r c)) (fT (ix2 r c))) ht
  · rw [if_neg q, if_neg q]
    exact congrArg (· * tcLoss (fX (ix2 r c)) (fT (ix2 r c))) ht

theorem tot_loss : tot fX fT 0 = ((all fun r c => bce fX fT r c + fitErr fX r c : ℝ) : EReal) := by
  unfold tot all
  rw [← sum2_coe]
  exact sum_congr rfl fun r _ => sum_congr rfl fun c _ => elt_loss h r c
theorem tot_label_loss : tot fX fT 1 = ((all fun r c => xr fT r c * (bce fX fT r c + fitErr fX r c) : ℝ) : EReal) := by
  unfold tot all
  rw [← sum2_coe]
  exact sum_congr rfl fun r _ => sum_congr rfl fun c _ => elt_label_loss h r c
theorem tot_label : tot fX fT 2 = ((all (xr fT) : ℝ) : EReal) := by
  unfold tot all
  rw [← sum2_coe]
  exact sum_congr rfl fun r _ => sum_congr rfl fun c _ => elt_label h r c

omit h in
theorem all_sub (f g : ℕ → ℕ → ℝ) : all f - all g = all fun r c => f r c - g r c := by
  unfold all
  simp only [sum_sub_distrib]
omit h in
theorem all_one : all (fun _ _ => 1) = 4194304 := by
  unfold all
  simp only [sum_const, card_range]
  norm_num
omit h in
theorem all_mul (δ : ℝ) (f : ℕ → ℕ → ℝ) : all (fun r c => δ * f r c) = δ * all f := by
  unfold all
  simp only [mul_sum]

/-- The kernel's balanced mean of its totals, as the balanced mean of the loss with the fit's error. -/
theorem kernel_coe : balance (fun _ => tot fX fT 2) (fun _ => Ideal.ofBits .f32 0x4A800000#32 - tot fX fT 2) (fun _ => tot fX fT 1)
      (fun _ => tot fX fT 0 - tot fX fT 1)
    = fun _ => ((side (all (xr fT)) (all fun r c => xr fT r c * (bce fX fT r c + fitErr fX r c))
      + side (all fun r c => 1 - xr fT r c) (all fun r c => (1 - xr fT r c) * (bce fX fT r c + fitErr fX r c)) : ℝ) : EReal) := by
  have e1 : (all fun r c => 1 - xr fT r c) = 4194304 - all (xr fT) := by rw [← all_one, all_sub]
  have e2 : (all fun r c => (1 - xr fT r c) * (bce fX fT r c + fitErr fX r c))
      = (all fun r c => bce fX fT r c + fitErr fX r c) - all fun r c => xr fT r c * (bce fX fT r c + fitErr fX r c) := by
    rw [all_sub]
    refine congrArg all (funext fun r => funext fun c => ?_)
    ring
  rw [e1, e2, ← balance_coe, tot_loss h, tot_label h, tot_label_loss h, Consts.count, ← EReal.coe_sub, ← EReal.coe_sub]

/-- The kernel's result is the reference's. -/
theorem kernel_eq_reference : balance (fun _ => tot fX fT 2) (fun _ => Ideal.ofBits .f32 0x4A800000#32 - tot fX fT 2) (fun _ => tot fX fT 1)
      (fun _ => tot fX fT 0 - tot fX fT 1) = val_main_v68 (F := Ideal) fX fT := by
  rw [kernel_coe h, reference_balR, balR_coe h _ (fun r c => bce fX fT r c + fitErr fX r c) (loss_at h)]

/-! ## How far the fit moves the result -/

omit h in
theorem fitErr_le (r c : ℕ) : |fitErr fX r c| ≤ 0.00349 := by
  unfold fitErr
  by_cases q : c < 98304
  · rw [if_pos q]
    exact err_le _ (Real.exp_pos _).le (Real.exp_le_one_iff.mpr (neg_nonpos.mpr (abs_nonneg _)))
  · rw [if_neg q, abs_zero]; norm_num

omit h in
/-- A weighted sum of errors is within their bound times the sum of the weights. -/
theorem all_near (w f g : ℕ → ℕ → ℝ) (hw : ∀ r c, 0 ≤ w r c) (hg : ∀ r c, |g r c| ≤ 0.00349) :
    |(all fun r c => w r c * (f r c + g r c)) - all fun r c => w r c * f r c| ≤ 0.00349 * all w := by
  rw [all_sub, ← all_mul]
  unfold all
  refine (abs_sum_le_sum_abs _ _).trans (sum_le_sum fun r _ => (abs_sum_le_sum_abs _ _).trans (sum_le_sum fun c _ => ?_))
  have e : w r c * (f r c + g r c) - w r c * f r c = g r c * w r c := by ring
  show |w r c * (f r c + g r c) - w r c * f r c| ≤ 0.00349 * w r c
  rw [e, abs_mul, abs_of_nonneg (hw r c)]
  exact mul_le_mul_of_nonneg_right (hg r c) (hw r c)

/-- The kernel's result is near reference.py's. -/
theorem kernel_near : Cert.Post_near_problem.fn (F := Ideal) fX fT
      (balance (fun _ => tot fX fT 2) (fun _ => Ideal.ofBits .f32 0x4A800000#32 - tot fX fT 2) (fun _ => tot fX fT 1) (fun _ => tot fX fT 0 - tot fX fT 1))
    = fun _ => 1#1 := by
  rw [post_balR, kernel_coe h, balR_coe h _ (bce fX fT) (bce_at h)]
  have w1 : ∀ r c, 0 ≤ xr fT r c := fun r c => by rcases xr_label h r c with e | e <;> rw [e] <;> norm_num
  have w2 : ∀ r c, 0 ≤ 1 - xr fT r c := fun r c => by rcases xr_label h r c with e | e <;> rw [e] <;> norm_num
  have n1 := side_near _ _ _ 0.00349 (by norm_num) (all_near (xr fT) (bce fX fT) (fitErr fX) w1 fitErr_le)
  have n2 := side_near _ _ _ 0.00349 (by norm_num) (all_near (fun r c => 1 - xr fT r c) (bce fX fT) (fitErr fX) w2 fitErr_le)
  generalize side _ _ = a1 at n1 ⊢
  generalize side _ _ = b1 at n2 ⊢
  generalize side _ _ = a2 at n1 ⊢
  generalize side _ _ = b2 at n2 ⊢
  funext i
  show BitVec.ofBool (decide (max (((a1 + b1 : ℝ) : EReal) - ((a2 + b2 : ℝ) : EReal)) (-(((a1 + b1 : ℝ) : EReal) - ((a2 + b2 : ℝ) : EReal))) ≤ Ideal.ofBits .f32 0x3B656042#32)) = 1#1
  rw [← EReal.coe_sub, abs_coe, Consts.bound, decide_eq_true]
  · rfl
  rw [EReal.coe_le_coe_iff]
  have t : |(a1 + b1) - (a2 + b2)| ≤ |a1 - a2| + |b1 - b2| := by
    have e : (a1 + b1) - (a2 + b2) = (a1 - a2) + (b1 - b2) := by ring
    rw [e]; exact abs_add_le _ _
  refine t.trans ((add_le_add n1 n2).trans ?_)
  norm_num

end

end Cert.Proof.Equation

end
-- ==== Proof.Claims.lean ====
/-
  The claims about values: under the precondition the kernel ends with the reference's result, near reference.py's; and
  the frames under the precondition.
-/
module

public import proofs.«01_k».proof.Proof.Frames
public import proofs.«01_k».proof.Proof.KernelValue
public import proofs.«01_k».proof.Proof.Equation

@[expose] public section

noncomputable section

namespace Cert.Proof

open Idealize.ShloMosaic Idealize.SL.Sem

/-- `Cert.quiescent_KernelIdeal_pre_labelled` (proof/Defs.lean). -/
theorem frame_kernelIdeal_labelled :
    Cert.quiescent_KernelIdeal_pre_labelled (hKernelIdeal := Cert.KernelIdeal.Gen.facts) (hPre_labelled := Cert.Pre_labelled.Gen.facts) :=
  fun m ρ _ => frame_kernelIdeal m ρ trivial

/-- `Cert.quiescent_ReferenceIdeal_pre_labelled` (proof/Defs.lean). -/
theorem frame_referenceIdeal_labelled :
    Cert.quiescent_ReferenceIdeal_pre_labelled (hReferenceIdeal := Cert.ReferenceIdeal.Gen.facts) (hPre_labelled := Cert.Pre_labelled.Gen.facts) :=
  fun m ρ _ => frame_referenceIdeal m ρ trivial

/-- `Cert.algebraic_KernelIdeal_ReferenceIdeal_pre_labelled` (proof/Defs.lean). -/
theorem algebraic : Cert.algebraic_KernelIdeal_ReferenceIdeal_pre_labelled (hKernelIdeal := Cert.KernelIdeal.Gen.facts)
    (hReferenceIdeal := Cert.ReferenceIdeal.Gen.facts) (hPre_labelled := Cert.Pre_labelled.Gen.facts) := fun m g m' g' pre agree => by
  refine ⟨fun c => Run.Vend m c (Run.dr Cert.KernelIdeal.main_v23), ?_, ?_⟩
  · exact (θ_run Cert.KernelIdeal.defs _ _).mono (fun _ h c => h.1 c) (Run.run_main (F := Ideal) m g)
  · refine (θ_run Cert.ReferenceIdeal.defs _ _).mono (fun r h c => ⟨(h c).1.trans ?_, (h c).2⟩) (Cert.ReferenceIdeal.Value.run (F := Ideal) m' g')
    rw [Cert.ReferenceIdeal.Read.val_main_v68_eq, (agree c).1, (agree c).2]
    exact ((Sums.kernel_value m c).trans (Equation.kernel_eq_reference (RefValue.labelled_of _ _ (pre c)))).symm

/-- `Cert.holds_KernelIdeal_near_problem_pre_labelled` (proof/Defs.lean). -/
theorem near : Cert.holds_KernelIdeal_near_problem_pre_labelled (hKernelIdeal := Cert.KernelIdeal.Gen.facts)
    (hPre_labelled := Cert.Pre_labelled.Gen.facts) (hPost_near_problem := Cert.Post_near_problem.Gen.facts) := fun m g pre => by
  refine (θ_run Cert.KernelIdeal.defs _ _).mono (fun r h c => ⟨(h.1 c).2.1, (h.1 c).2.2, ?_⟩) (Run.run_main (F := Ideal) m g)
  have e : r.2.mem (Run.rLoc c) = _ := (h.1 c).1.trans (Sums.kernel_value m c)
  exact (congrArg (Cert.Post_near_problem.fn (F := Ideal) (m (Run.xLoc c)) (m (Run.tLoc c))) e).trans
    (Equation.kernel_near (RefValue.labelled_of _ _ (pre c)))

end Cert.Proof

end
-- ==== Proof.lean ====
/-
  The proof of `Cert.Claim`: the claims of proof/Defs.lean, each from the module that proves it.
-/
module

public import proofs.«01_k».proof.Defs
public import proofs.«01_k».proof.Proof.Frames
public import proofs.«01_k».proof.Proof.Claims

@[expose] public section

noncomputable section

namespace Cert.Proof

open Idealize.ShloMosaic Idealize.SL.Sem

/-- The claims of proof/Defs.lean. -/
theorem claim : Cert.Claim :=
  ⟨Cert.Kernel.Gen.facts, Cert.KernelIdeal.Gen.facts, Cert.ReferenceIdeal.Gen.facts, Cert.Pre_labelled.Gen.facts,
    Cert.Post_near_problem.Gen.facts, frame_kernel, frame_kernelIdeal, frame_kernelIdeal_labelled,
    frame_referenceIdeal, frame_referenceIdeal_labelled, trivial, algebraic, near⟩

end Cert.Proof

end
